-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "three_fifths" .f32 0x3F19999A#32 ((3 / 5 : ℝ) : EReal)
  ∧ IdealRules.named_const.Statement Cert.KernelIdeal.κ "five_twelfths" .f32 0x3ED55555#32 ((5 / 12 : ℝ) : EReal)
  ∧ IdealRules.named_const.Statement Cert.KernelIdeal.κ "three_twentieths" .f32 0x3E19999A#32 ((3 / 20 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4096 : Shape := ⟨3, ![2, 512, 4096]⟩
abbrev S4096x11008 : Shape := ⟨2, ![4096, 11008]⟩
abbrev S2048x11008 : Shape := ⟨2, ![2048, 11008]⟩
abbrev S11008 : Shape := ⟨1, ![11008]⟩
abbrev S1024x4096 : Shape := ⟨2, ![1024, 4096]⟩
abbrev S1x11008 : Shape := ⟨2, ![1, 11008]⟩
abbrev S1024x11008 : Shape := ⟨2, ![1024, 11008]⟩
abbrev S4096x256 : Shape := ⟨2, ![4096, 256]⟩
abbrev S2048x256 : Shape := ⟨2, ![2048, 256]⟩
abbrev S1x256 : Shape := ⟨2, ![1, 256]⟩
abbrev S1024x256 : Shape := ⟨2, ![1024, 256]⟩
abbrev S4096x1024 : Shape := ⟨2, ![4096, 1024]⟩
abbrev S8x256 : Shape := ⟨2, ![8, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S32x8x256 : Shape := ⟨3, ![32, 8, 256]⟩
abbrev S256 : Shape := ⟨1, ![256]⟩
abbrev S256x1024 : Shape := ⟨2, ![256, 1024]⟩

abbrev nBuf : Space → Nat
  | .hbm => 11
  | .vmem => 20
  | .smem => 0
  | _ => 0

abbrev bufTy : (tb : Table) → Fin (tcTables nBuf tb) → BufTy
  | .hbm, ⟨0, _⟩ => ⟨S2x512x4096, .bf16⟩
  | .hbm, ⟨1, _⟩ => ⟨S4096x11008, .f32⟩
  | .hbm, ⟨2, _⟩ => ⟨S2048x11008, .i8⟩
  | .hbm, ⟨3, _⟩ => ⟨S11008, .f32⟩
  | .hbm, ⟨4, _⟩ => ⟨S4096x11008, .f32⟩
  | .hbm, ⟨5, _⟩ => ⟨S1024x4096, .bf16⟩
  | .hbm, ⟨6, _⟩ => ⟨S1x11008, .f32⟩
  | .hbm, ⟨7, _⟩ => ⟨S1x11008, .f32⟩
  | .hbm, ⟨8, _⟩ => ⟨S1x11008, .f32⟩
  | .hbm, ⟨9, _⟩ => ⟨S1024x11008, .bf16⟩
  | .hbm, ⟨10, _⟩ => ⟨S4096x11008, .f32⟩
  | .local _ .vmem, ⟨0, _⟩ => ⟨S1024x4096, .bf16⟩
  | .local _ .vmem, ⟨1, _⟩ => ⟨S4096x256, .f32⟩
  | .local _ .vmem, ⟨2, _⟩ => ⟨S4096x256, .f32⟩
  | .local _ .vmem, ⟨3, _⟩ => ⟨S2048x256, .i8⟩
  | .local _ .vmem, ⟨4, _⟩ => ⟨S2048x256, .i8⟩
  | .local _ .vmem, ⟨5, _⟩ => ⟨S1x256, .f32⟩
  | .local _ .vmem, ⟨6, _⟩ => ⟨S1x256, .f32⟩
  | .local _ .vmem, ⟨7, _⟩ => ⟨S4096x256, .f32⟩
  | .local _ .vmem, ⟨8, _⟩ => ⟨S4096x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1024x256, .bf16⟩
  | .local _ .vmem, ⟨14, _⟩ => ⟨S1024x256, .bf16⟩
  | .local _ .vmem, ⟨15, _⟩ => ⟨S4096x256, .f32⟩
  | .local _ .vmem, ⟨16, _⟩ => ⟨S4096x256, .f32⟩
  | .local _ .vmem, ⟨17, _⟩ => ⟨S4096x1024, .bf16⟩
  | .local _ .vmem, ⟨18, _⟩ => ⟨S4096x256, .f32⟩
  | .local _ .vmem, ⟨19, _⟩ => ⟨S4096x256, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "five_twelfths" => some ((5 / 12 : ℝ) : EReal)
  | "three_fifths" => some ((3 / 5 : ℝ) : EReal)
  | "three_twentieths" => some ((3 / 20 : ℝ) : EReal)
  | _ => none
-- ==== ReferenceIdeal.lean ====
abbrev S2x512x4096 : Shape := ⟨3, ![2, 512, 4096]⟩
abbrev S4096x11008 : Shape := ⟨2, ![4096, 11008]⟩
abbrev S2048x11008 : Shape := ⟨2, ![2048, 11008]⟩
abbrev S11008 : Shape := ⟨1, ![11008]⟩
abbrev S1024x4096 : Shape := ⟨2, ![1024, 4096]⟩
abbrev S_ : Shape := ⟨0, ![]⟩
abbrev S2048x1x11008 : Shape := ⟨3, ![2048, 1, 11008]⟩
abbrev S2048x2x11008 : Shape := ⟨3, ![2048, 2, 11008]⟩
abbrev S1x11008 : Shape := ⟨2, ![1, 11008]⟩
abbrev S1024x11008 : Shape := ⟨2, ![1024, 11008]⟩

abbrev nBuf : Space → Nat
  | .hbm => 163
  | .vmem => 0
  | .smem => 0
  | _ => 0

abbrev hbmTy0_0 (i : Nat) : BufTy := match i % 128 with
  | 0 => ⟨S2x512x4096, .bf16⟩
  | 1 => ⟨S4096x11008, .f32⟩
  | 2 => ⟨S2048x11008, .i8⟩
  | 3 => ⟨S11008, .f32⟩
  | 4 => ⟨S4096x11008, .f32⟩
  | 5 => ⟨S1024x4096, .bf16⟩
  | 6 => ⟨S2048x11008, .i32⟩
  | 7 => ⟨S_, .i32⟩
  | 8 => ⟨S2048x11008, .i32⟩
  | 9 => ⟨S2048x11008, .i32⟩
  | 10 => ⟨S_, .i32⟩
  | 11 => ⟨S2048x11008, .i32⟩
  | 12 => ⟨S2048x11008, .i32⟩
  | 13 => ⟨S_, .i32⟩
  | 14 => ⟨S2048x11008, .i32⟩
  | 15 => ⟨S2048x11008, .i1⟩
  | 16 => ⟨S_, .i32⟩
  | 17 => ⟨S2048x11008, .i32⟩
  | 18 => ⟨S2048x11008, .i32⟩
  | 19 => ⟨S2048x11008, .i32⟩
  | 20 => ⟨S2048x11008, .f32⟩
  | 21 => ⟨S_, .i32⟩
  | 22 => ⟨S2048x11008, .i32⟩
  | 23 => ⟨S2048x11008, .i1⟩
  | 24 => ⟨S_, .i32⟩
  | 25 => ⟨S2048x11008, .i32⟩
  | 26 => ⟨S2048x11008, .i32⟩
  | 27 => ⟨S2048x11008, .i32⟩
  | 28 => ⟨S2048x11008, .f32⟩
  | 29 => ⟨S2048x1x11008, .f32⟩
  | 30 => ⟨S2048x1x11008, .f32⟩
  | 31 => ⟨S2048x2x11008, .f32⟩
  | 32 => ⟨S4096x11008, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S4096x11008, .f32⟩
  | 40 => ⟨S4096x11008, .f32⟩
  | 41 => ⟨S_, .f32⟩
  | 42 => ⟨S4096x11008, .f32⟩
  | 43 => ⟨S4096x11008, .f32⟩
  | 44 => ⟨S_, .f32⟩
  | 45 => ⟨S4096x11008, .f32⟩
  | 46 => ⟨S4096x11008, .f32⟩
  | 47 => ⟨S_, .f32⟩
  | 48 => ⟨S_, .f32⟩
  | 49 => ⟨S4096x11008, .f32⟩
  | 50 => ⟨S4096x11008, .f32⟩
  | 51 => ⟨S_, .f32⟩
  | 52 => ⟨S4096x11008, .f32⟩
  | 53 => ⟨S4096x11008, .f32⟩
  | 54 => ⟨S_, .f32⟩
  | 55 => ⟨S_, .f32⟩
  | 56 => ⟨S_, .f32⟩
  | 57 => ⟨S4096x11008, .f32⟩
  | 58 => ⟨S4096x11008, .f32⟩
  | 59 => ⟨S_, .f32⟩
  | 60 => ⟨S4096x11008, .f32⟩
  | 61 => ⟨S4096x11008, .f32⟩
  | 62 => ⟨S4096x11008, .f32⟩
  | 63 => ⟨S_, .f32⟩
  | 64 => ⟨S_, .f32⟩
  | 65 => ⟨S_, .f32⟩
  | 66 => ⟨S4096x11008, .f32⟩
  | 67 => ⟨S4096x11008, .f32⟩
  | 68 => ⟨S_, .f32⟩
  | 69 => ⟨S4096x11008, .f32⟩
  | 70 => ⟨S4096x11008, .f32⟩
  | 71 => ⟨S1x11008, .f32⟩
  | 72 => ⟨S4096x11008, .f32⟩
  | 73 => ⟨S4096x11008, .f32⟩
  | 74 => ⟨S4096x11008, .f32⟩
  | 75 => ⟨S4096x11008, .bf16⟩
  | 76 => ⟨S1024x11008, .f32⟩
  | 77 => ⟨S1024x11008, .f32⟩
  | 78 => ⟨S_, .f32⟩
  | 79 => ⟨S11008, .f32⟩
  | 80 => ⟨S_, .f32⟩
  | 81 => ⟨S11008, .f32⟩
  | 82 => ⟨S11008, .f32⟩
  | 83 => ⟨S_, .f32⟩
  | 84 => ⟨S4096x11008, .f32⟩
  | 85 => ⟨S4096x11008, .f32⟩
  | 86 => ⟨S_, .f32⟩
  | 87 => ⟨S4096x11008, .f32⟩
  | 88 => ⟨S4096x11008, .f32⟩
  | 89 => ⟨S4096x11008, .f32⟩
  | 90 => ⟨S_, .f32⟩
  | 91 => ⟨S4096x11008, .f32⟩
  | 92 => ⟨S4096x11008, .f32⟩
  | 93 => ⟨S_, .f32⟩
  | 94 => ⟨S4096x11008, .f32⟩
  | 95 => ⟨S4096x11008, .f32⟩
  | 96 => ⟨S_, .f32⟩
  | 97 => ⟨S11008, .f32⟩
  | 98 => ⟨S_, .f32⟩
  | 99 => ⟨S11008, .f32⟩
  | 100 => ⟨S11008, .f32⟩
  | 101 => ⟨S1024x11008, .bf16⟩
  | 102 => ⟨S4096x11008, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S4096x11008, .f32⟩
  | 111 => ⟨S4096x11008, .i1⟩
  | 112 => ⟨S_, .f32⟩
  | 113 => ⟨S_, .f32⟩
  | 114 => ⟨S4096x11008, .f32⟩
  | 115 => ⟨S4096x11008, .f32⟩
  | 116 => ⟨S4096x11008, .f32⟩
  | 117 => ⟨S_, .f32⟩
  | 118 => ⟨S4096x11008, .f32⟩
  | 119 => ⟨S4096x11008, .i1⟩
  | 120 => ⟨S_, .f32⟩
  | 121 => ⟨S4096x11008, .f32⟩
  | 122 => ⟨S4096x11008, .i1⟩
  | 123 => ⟨S4096x11008, .i1⟩
  | 124 => ⟨S_, .f32⟩
  | 125 => ⟨S_, .f32⟩
  | 126 => ⟨S4096x11008, .f32⟩
  | 127 => ⟨S4096x11008, .f32⟩
  | _ => ⟨S2x512x4096, .bf16⟩

abbrev hbmTy0_1 (i : Nat) : BufTy := match i % 128 with
  | 0 => ⟨S_, .f32⟩
  | 1 => ⟨S4096x11008, .f32⟩
  | 2 => ⟨S4096x11008, .f32⟩
  | 3 => ⟨S4096x11008, .f32⟩
  | 4 => ⟨S_, .f32⟩
  | 5 => ⟨S_, .f32⟩
  | 6 => ⟨S4096x11008, .f32⟩
  | 7 => ⟨S4096x11008, .f32⟩
  | 8 => ⟨S_, .f32⟩
  | 9 => ⟨S4096x11008, .f32⟩
  | 10 => ⟨S4096x11008, .f32⟩
  | 11 => ⟨S_, .f32⟩
  | 12 => ⟨S4096x11008, .f32⟩
  | 13 => ⟨S4096x11008, .f32⟩
  | 14 => ⟨S4096x11008, .f32⟩
  | 15 => ⟨S_, .f32⟩
  | 16 => ⟨S4096x11008, .f32⟩
  | 17 => ⟨S4096x11008, .f32⟩
  | 18 => ⟨S4096x11008, .f32⟩
  | 19 => ⟨S_, .f32⟩
  | 20 => ⟨S4096x11008, .f32⟩
  | 21 => ⟨S4096x11008, .f32⟩
  | 22 => ⟨S4096x11008, .f32⟩
  | 23 => ⟨S_, .f32⟩
  | 24 => ⟨S4096x11008, .f32⟩
  | 25 => ⟨S4096x11008, .f32⟩
  | 26 => ⟨S1x11008, .f32⟩
  | 27 => ⟨S4096x11008, .f32⟩
  | 28 => ⟨S4096x11008, .f32⟩
  | 29 => ⟨S4096x11008, .f32⟩
  | 30 => ⟨S4096x11008, .f32⟩
  | 31 => ⟨S4096x11008, .f32⟩
  | 32 => ⟨S4096x11008, .f32⟩
  | 33 => ⟨S1x11008, .f32⟩
  | 34 => ⟨S1x11008, .f32⟩
  | _ => ⟨S2x512x4096, .bf16⟩

abbrev hbmTy (i : Nat) : BufTy := match i / 128 with
  | 0 => hbmTy0_0 i
  | 1 => hbmTy0_1 i
  | _ => ⟨S2x512x4096, .bf16⟩

abbrev bufTy : (tb : Table) → Fin (tcTables nBuf tb) → BufTy
  | .hbm, ⟨i, _⟩ => hbmTy i
  | _, _ => ⟨S2x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_cst_11 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_cst_13 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_cst_15 : Ref sig .tc := ⟨.hbm, 80, rfl⟩
abbrev main_v48 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_18 : Ref sig .tc := ⟨.hbm, 90, rfl⟩
abbrev main_v55 : Ref sig .tc := ⟨.hbm, 91, rfl⟩
abbrev main_v56 : Ref sig .tc := ⟨.hbm, 92, rfl⟩
abbrev main_cst_19 : Ref sig .tc := ⟨.hbm, 93, rfl⟩
abbrev main_v57 : Ref sig .tc := ⟨.hbm, 94, rfl⟩
abbrev main_v58 : Ref sig .tc := ⟨.hbm, 95, rfl⟩
abbrev main_cst_20 : Ref sig .tc := ⟨.hbm, 96, rfl⟩
abbrev main_v59 : Ref sig .tc := ⟨.hbm, 97, rfl⟩
abbrev main_cst_21 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_22 : Ref sig .tc := ⟨.hbm, 103, rfl⟩
abbrev main_cst_23 : Ref sig .tc := ⟨.hbm, 104, rfl⟩
abbrev main_v64 : Ref sig .tc := ⟨.hbm, 105, rfl⟩
abbrev main_cst_24 : Ref sig .tc := ⟨.hbm, 106, rfl⟩
abbrev main_cst_25 : Ref sig .tc := ⟨.hbm, 107, rfl⟩
abbrev main_v65 : Ref sig .tc := ⟨.hbm, 108, rfl⟩
abbrev main_cst_26 : Ref sig .tc := ⟨.hbm, 109, rfl⟩
abbrev main_v66 : Ref sig .tc := ⟨.hbm, 110, rfl⟩
abbrev main_v67 : Ref sig .tc := ⟨.hbm, 111, rfl⟩
abbrev main_cst_27 : Ref sig .tc := ⟨.hbm, 112, rfl⟩
abbrev main_cst_28 : Ref sig .tc := ⟨.hbm, 113, rfl⟩
abbrev main_call4_v0 : Ref sig .tc := ⟨.hbm, 114, rfl⟩
abbrev main_call4_v1 : Ref sig .tc := ⟨.hbm, 115, rfl⟩
abbrev main_v68 : Ref sig .tc := ⟨.hbm, 116, rfl⟩
abbrev main_cst_29 : Ref sig .tc := ⟨.hbm, 117, rfl⟩
abbrev main_v69 : Ref sig .tc := ⟨.hbm, 118, rfl⟩
abbrev main_v70 : Ref sig .tc := ⟨.hbm, 119, rfl⟩
abbrev main_cst_30 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_31 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_32 : Ref sig .tc := ⟨.hbm, 132, rfl⟩
abbrev main_call5_v0 : Ref sig .tc := ⟨.hbm, 133, rfl⟩
abbrev main_call5_v1 : Ref sig .tc := ⟨.hbm, 134, rfl⟩
abbrev main_v81 : Ref sig .tc := ⟨.hbm, 135, rfl⟩
abbrev main_cst_33 : Ref sig .tc := ⟨.hbm, 136, rfl⟩
abbrev main_v82 : Ref sig .tc := ⟨.hbm, 137, rfl⟩
abbrev main_v83 : Ref sig .tc := ⟨.hbm, 138, rfl⟩
abbrev main_cst_34 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_35 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_36 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_37 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩

abbrev nD : Nat := 1
abbrev τ : Topo := Topo.v7x

variable {F : FTy → Type} [FloatOps F]
-- ==== Proof.Tiles.lean ====
/- The kernel's body cut into its sixteen row tiles. What one tile computes is written once, as a function of the
   pieces it loads; the running sums over the tiles are a recursion on the tile's number; the pieces of the two
   scratch arrays and of the gradient are a list built by the same recursion. -/
module

public import proofs.«01_k».proof.Proof.Gen.KernelIdeal.Frame
public import Idealize.ShloMosaic.Lib.Pipeline.Value

@[expose] public section

set_option maxRecDepth 16384

noncomputable section

namespace Cert.Adaround

open Cert.KernelIdeal Cert.KernelIdeal.Gen Idealize.ShloMosaic Idealize.ShloMosaic.TcCoe Idealize.SL.Sem

/-! ## The rectangles a tile loads -/

/-- Tile `k`'s rows of a 4096 × 256 array. -/
def rowR (k : ℕ) (h : k < 16) : Rect S4096x256 :=
  Rect.unit (s := S4096x256) ![256 * k, 0] S256x256.size
    (fun a => by fin_cases a <;> [show 256 * k + 256 ≤ 4096; show 0 + 256 ≤ 256] <;> omega)

/-- Tile `k`'s rows of the packed codes: 128 bytes' rows, two codes to a byte. -/
def halfR (k : ℕ) (h : k < 16) : Rect S2048x256 :=
  Rect.unit (s := S2048x256) ![128 * k, 0] S128x256.size
    (fun a => by fin_cases a <;> [show 128 * k + 128 ≤ 2048; show 0 + 256 ≤ 256] <;> omega)

/-- Tile `k`'s columns of the activations. -/
def colR (k : ℕ) (h : k < 16) : Rect S1024x4096 :=
  Rect.unit (s := S1024x4096) ![0, 256 * k] S1024x256.size
    (fun a => by fin_cases a <;> [show 0 + 1024 ≤ 1024; show 256 * k + 256 ≤ 4096] <;> omega)

/-- Tile `k`'s rows of the transposed activations. -/
def xtR (k : ℕ) (h : k < 16) : Rect S4096x1024 :=
  Rect.unit (s := S4096x1024) ![256 * k, 0] S256x1024.size
    (fun a => by fin_cases a <;> [show 256 * k + 256 ≤ 4096; show 0 + 1024 ≤ 1024] <;> omega)

/-! ## A list with one entry per tile, the last tile first -/

/-- Entries `f 0, …, f (n - 1)`, the last first. -/
def tiles {α : Type} (f : (k : ℕ) → k < 16 → α) : (n : ℕ) → n ≤ 16 → List α
  | 0, _ => []
  | n + 1, h => f n (by omega) :: tiles f n (by omega)

theorem mem_tiles {α : Type} {f : (k : ℕ) → k < 16 → α} {x : α} :
    ∀ (n : ℕ) (h : n ≤ 16), x ∈ tiles f n h → ∃ k hk, x = f k hk
  | 0, _, hx => by simp [tiles] at hx
  | n + 1, h, hx => by
      rcases List.mem_cons.mp hx with rfl | hx
      · exact ⟨n, _, rfl⟩
      · exact mem_tiles n _ hx

variable {F : FTy → Type} [FloatOps F] [Named F]

/-! ## The loads -/

def ldRow {e : EltTy} (x : Vec F S4096x256 e) (k : ℕ) (h : k < 16) : Vec F S256x256 e := View.ld x (rowR k h)
def ldHalf (x : Vec F S2048x256 .i8) (k : ℕ) (h : k < 16) : Vec F S128x256 .i8 := View.ld x (halfR k h)
def ldCol (x : Vec F S1024x4096 .bf16) (k : ℕ) (h : k < 16) : Vec F S1024x256 .bf16 := View.ld x (colR k h)
def ldXt (x : Vec F S4096x1024 .bf16) (k : ℕ) (h : k < 16) : Vec F S256x1024 .bf16 := View.ld x (xtR k h)

/-! ## What a block's body computes, from the five blocks it loads -/

variable (x0 : Vec F S1024x4096 .bf16) (x1 : Vec F S4096x256 .f32) (x2 : Vec F S2048x256 .i8)
  (x3 : Vec F S1x256 .f32) (x4 : Vec F S4096x256 .f32)

/-- Tile `k`'s rounding offset less a half. -/
def cT (k : ℕ) (h : k < 16) : FVec F S256x256 .f32 := k0_pay7 (ldRow x4 k h)

/-- Tile `k`'s codes plus their rounding offset. -/
def qsT (k : ℕ) (h : k < 16) : FVec F S256x256 .f32 := k0_pay8 (ldHalf x2 k h) (ldRow x4 k h)

/-- Tile `k`'s part of the error: its columns of the activations times its rows of the weights' error. -/
def accT (k : ℕ) (h : k < 16) (acc : FVec F S1024x256 .f32) : FVec F S1024x256 .f32 :=
  k0_pay16 (k0_pay3 x3) acc (k0_pay9 (ldHalf x2 k h) (ldRow x4 k h)) (ldRow x1 k h)
    (ldCol x0 k h)

/-- The error summed over the first `n` tiles. -/
def accN : (n : ℕ) → n ≤ 16 → FVec F S1024x256 .f32
  | 0, _ => k0_pay5
  | n + 1, h => accT x0 x1 x2 x3 x4 n (by omega) (accN n (by omega))

/-- The eighth powers summed over the first `n` tiles, eight rows kept apart. -/
def p8N : (n : ℕ) → n ≤ 16 → FVec F S8x256 .f32
  | 0, _ => k0_pay6
  | n + 1, h => k0_pay15 (p8N n (by omega)) (cT x4 n (by omega))

/-- The factor of the gradient's product with the error, tile `k`. -/
def aT (k : ℕ) (h : k < 16) : FVec F S256x256 .f32 := k0_pay13 (k0_pay4 x3) (cT x4 k h) (qsT x2 x4 k h)

/-- The regulariser's part of the gradient, tile `k`. -/
def bT (k : ℕ) (h : k < 16) : FVec F S256x256 .f32 := k0_pay14 (cT x4 k h)

/-- The error. -/
def accF : FVec F S1024x256 .f32 := accN x0 x1 x2 x3 x4 16 (le_refl 16)

/-- The error, narrowed. -/
def eF : FVec F S1024x256 .bf16 := truncf .bf16 (accF x0 x1 x2 x3 x4) bitsLt_bf16_f32

/-- The mean squared error of each column. -/
def recF : FVec F S1x256 .f32 :=
  mulf (shapeCast S1x256 (multiReduction .add [0] S256 (mulf (accF x0 x1 x2 x3 x4) (accF x0 x1 x2 x3 x4)) 0x00000000#32
    reduces_S1024x256_S256 (.inl rfl) rfl) shapeCasts_S256_S1x256) (broadcast S1x256 (Scalar.ofBits .f32 0x3A800000#32))

/-- The regulariser of each column. -/
def regF : FVec F S1x256 .f32 :=
  mulf (broadcast S1x256 (Scalar.ofBits .f32 0x39800000#32))
    (subf (broadcast S1x256 (Scalar.ofBits .f32 0x45800000#32))
      (mulf (broadcast S1x256 (Scalar.ofBits .f32 0x43800000#32))
        (shapeCast S1x256 (multiReduction .add [0] S256 (p8N x4 16 (le_refl 16)) 0x00000000#32
          reduces_S8x256_S256 (.inl rfl) rfl) shapeCasts_S256_S1x256)))

/-- The first scratch array's pieces: the gradient's factors. -/
def aP : List (View.Piece (Elt F) S4096x256 .f32) :=
  tiles (fun k h => ⟨rowR k h, aT x2 x3 x4 k h⟩) 16 (le_refl 16)

/-- The second scratch array's pieces: the regulariser's parts. -/
def bP : List (View.Piece (Elt F) S4096x256 .f32) :=
  tiles (fun k h => ⟨rowR k h, bT x4 k h⟩) 16 (le_refl 16)

/-- The gradient's tile `k`, from the transposed activations. -/
def dvT (xt : Vec F S4096x1024 .bf16) (k : ℕ) (h : k < 16) : FVec F S256x256 .f32 :=
  k0_pay1 (eF x0 x1 x2 x3 x4) (ldXt xt k h) (ldRow (View.canon (aP x2 x3 x4)) k h)
    (ldRow (View.canon (bP x4)) k h)

/-- The gradient's pieces. -/
def dvP (xt : Vec F S4096x1024 .bf16) : List (View.Piece (Elt F) S4096x256 .f32) :=
  tiles (fun k h => ⟨rowR k h, dvT x0 x1 x2 x3 x4 xt k h⟩) 16 (le_refl 16)

end Cert.Adaround
-- ==== Proof.Open.lean ====
/- What one grid point's body leaves in each output block, opened from the run's named terms into the tile functions
   of `Tiles.lean`: case A is a core's first grid point, which transposes the activations into its scratch array;
   case B is every other, which finds them there. -/
module

public import proofs.«01_k».proof.Proof.Tiles

@[expose] public section

set_option maxRecDepth 16384

noncomputable section

namespace Cert.Adaround

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

variable (c : Dev nD) (i : grid0.Coords)
  (arg1 : Memref sig .tc .vmem S1024x4096 .bf16) (harg1 : arg1.IsWhole)
  (arg2 : Memref sig .tc .vmem S4096x256 .f32) (harg2 : arg2.IsWhole)
  (arg3 : Memref sig .tc .vmem S2048x256 .i8) (harg3 : arg3.IsWhole)
  (arg4 : Memref sig .tc .vmem S1x256 .f32) (harg4 : arg4.IsWhole)
  (arg5 : Memref sig .tc .vmem S4096x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1024x256 .bf16) (harg8 : arg8.IsWhole)
  (arg9 : Memref sig .tc .vmem S4096x256 .f32) (harg9 : arg9.IsWhole)
  (arg10 : Memref sig .tc .vmem S4096x1024 .bf16) (harg10 : arg10.IsWhole)
  (arg11 : Memref sig .tc .vmem S4096x256 .f32) (harg11 : arg11.IsWhole)
  (arg12 : Memref sig .tc .vmem S4096x256 .f32) (harg12 : arg12.IsWhole)
  (x0 : Vec F S1024x4096 .bf16) (x1 : Vec F S4096x256 .f32) (x2 : Vec F S2048x256 .i8)
  (x3 : Vec F S1x256 .f32) (x4 : Vec F S4096x256 .f32)

/-- A core's first grid point leaves the reconstruction error, the regulariser, the narrowed error and the gradient in
    their blocks, and the transposed activations in the carried scratch array. -/
theorem out_A (hc0 : cond0_0 i) :
    out0_A_5 c i arg1 harg1 arg2 harg2 arg3 harg3 arg4 harg4 arg5 harg5 arg6 harg6 arg7 harg7 arg8 harg8 arg9 harg9 arg10
      harg10 arg11 harg11 arg12 harg12 hc0 x0 x1 x2 x3 x4 = recF x0 x1 x2 x3 x4 ∧
    out0_A_6 c i arg1 harg1 arg2 harg2 arg3 harg3 arg4 harg4 arg5 harg5 arg6 harg6 arg7 harg7 arg8 harg8 arg9 harg9 arg10
      harg10 arg11 harg11 arg12 harg12 hc0 x0 x1 x2 x3 x4 = regF x4 ∧
    out0_A_7 c i arg1 harg1 arg2 harg2 arg3 harg3 arg4 harg4 arg5 harg5 arg6 harg6 arg7 harg7 arg8 harg8 arg9 harg9 arg10
      harg10 arg11 harg11 arg12 harg12 hc0 x0 x1 x2 x3 x4 = eF x0 x1 x2 x3 x4 ∧
    out0_A_8 c i arg1 harg1 arg2 harg2 arg3 harg3 arg4 harg4 arg5 harg5 arg6 harg6 arg7 harg7 arg8 harg8 arg9 harg9 arg10
      harg10 arg11 harg11 arg12 harg12 hc0 x0 x1 x2 x3 x4 = View.canon (dvP x0 x1 x2 x3 x4 (k0_pay2 x0)) ∧
    sout0_A_0 c i arg1 harg1 arg2 harg2 arg3 harg3 arg4 harg4 arg5 harg5 arg6 harg6 arg7 harg7 arg8 harg8 arg9 harg9 arg10
      harg10 arg11 harg11 arg12 harg12 hc0 x0 x1 x2 x3 x4 = k0_pay2 x0 := by
  refine ⟨?_, ?_, ?_, ?_, ?_⟩
  all_goals
    simp only [out0_A_5, out0_A_6, out0_A_7, out0_A_8, sout0_A_0, View.read_writes_junk_eq_canon]
    unfold kernelRun0_A
    dsimp only
    sl_unfold_words
    simp only [View.readAt_eq_ld, harg1.read_unread, harg2.read_unread, harg3.read_unread, harg4.read_unread,
      harg5.read_unread, View.ld_unit_zero (S := S1x256) hz, View.ld_unit_zero (S := S1024x4096) hz,
      View.canon_unit_zero (S := S1x256) hz, View.canon_unit_zero (S := S1024x256) hz,
      View.canon_unit_zero (S := S4096x1024) hz, View.readCov_eq_canon', recF, regF, eF, accF, accN, accT, p8N, cT, dvP,
      dvT, aP, bP, aT, bT, qsT, tiles]
    try sl_kernel_rfl

/-- Every other grid point leaves the same four values, the gradient taken from the transposed activations it found. -/
theorem out_B (hc0 : ¬ cond0_0 i) (xs0 : Vec F S4096x1024 .bf16) :
    out0_B_5 c i arg1 harg1 arg2 harg2 arg3 harg3 arg4 harg4 arg5 harg5 arg6 harg6 arg7 harg7 arg8 harg8 arg9 harg9 arg10
      harg10 arg11 harg11 arg12 harg12 hc0 x0 x1 x2 x3 x4 xs0 = recF x0 x1 x2 x3 x4 ∧
    out0_B_6 c i arg1 harg1 arg2 harg2 arg3 harg3 arg4 harg4 arg5 harg5 arg6 harg6 arg7 harg7 arg8 harg8 arg9 harg9 arg10
      harg10 arg11 harg11 arg12 harg12 hc0 x0 x1 x2 x3 x4 xs0 = regF x4 ∧
    out0_B_7 c i arg1 harg1 arg2 harg2 arg3 harg3 arg4 harg4 arg5 harg5 arg6 harg6 arg7 harg7 arg8 harg8 arg9 harg9 arg10
      harg10 arg11 harg11 arg12 harg12 hc0 x0 x1 x2 x3 x4 xs0 = eF x0 x1 x2 x3 x4 ∧
    out0_B_8 c i arg1 harg1 arg2 harg2 arg3 harg3 arg4 harg4 arg5 harg5 arg6 harg6 arg7 harg7 arg8 harg8 arg9 harg9 arg10
      harg10 arg11 harg11 arg12 harg12 hc0 x0 x1 x2 x3 x4 xs0 = View.canon (dvP x0 x1 x2 x3 x4 xs0) := by
  refine ⟨?_, ?_, ?_, ?_⟩
  all_goals
    simp only [out0_B_5, out0_B_6, out0_B_7, out0_B_8, View.read_writes_junk_eq_canon]
    unfold kernelRun0_B
    dsimp only
    sl_unfold_words
    simp only [View.readAt_eq_ld, harg1.read_unread, harg2.read_unread, harg3.read_unread, harg4.read_unread,
      harg5.read_unread, harg10.read_unread, View.ld_unit_zero (S := S1x256) hz, View.ld_unit_zero (S := S1024x4096) hz,
      View.canon_unit_zero (S := S1x256) hz, View.canon_unit_zero (S := S1024x256) hz,
      View.canon_unit_zero (S := S4096x1024) hz, View.readCov_eq_canon', recF, regF, eF, accF, accN, accT, p8N, cT, dvP,
      dvT, aP, bP, aT, bT, qsT, tiles]
    try sl_kernel_rfl

end Cert.Adaround
-- ==== Proof.Points.lean ====
/- What each grid point leaves, over the argument arrays: the five input blocks of point `t` at an index (the
   activations whole, the other four their column block `t`), the carried scratch array at the transposed activations
   after every point, and the four result arrays at an index. -/
module

public import proofs.«01_k».proof.Proof.Open
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Adaround

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

/-- The grid has 43 points. -/
theorem tlt (t : Fin cfg0.N) : t.val < 43 := lt_of_lt_of_eq t.isLt N_0

/-! ## The input blocks -/

theorem index_in : ∀ t : Fin cfg0.N, win0_0.index t = ![0, 0] ∧ win0_1.index t = ![0, t.val] ∧
    win0_2.index t = ![0, t.val] ∧ win0_3.index t = ![0, t.val] ∧ win0_4.index t = ![0, t.val] :=
  (by decide +kernel : ∀ t : Fin grid0.N, _)

/-- Column `j` of column block `t`. -/
def colOf (t : Fin cfg0.N) (j : Fin 256) : Fin 11008 := ⟨256 * t.val + j.val, by have := tlt t; omega⟩

/-- The activations as one matrix. -/
def actv (i : Fin 1024) (d : Fin 4096) : Elt F .bf16 :=
  m ((c : Thread nD τ).loc main_arg0) (ix3 (⟨i.val / 512, by omega⟩ : Fin 2) (⟨i.val % 512, by omega⟩ : Fin 512) d)

theorem iblk0_apply (t : Fin cfg0.N) (i : Fin 1024) (d : Fin 4096) :
    iblk m c 0 t (ix2 i d) = actv m c i d := by
  unfold iblk actv
  rw [View.read_apply]
  entry_read
  pointwise
  blk_ext [(index_in t).1]

theorem iblk1_apply (t : Fin cfg0.N) (r : Fin 4096) (j : Fin 256) :
    iblk m c 1 t (ix2 r j) = m ((c : Thread nD τ).loc main_arg1) (ix2 r (colOf t j)) := by
  blk_ext [iblk, V, colOf, (index_in t).2.1]

theorem iblk2_apply (t : Fin cfg0.N) (r : Fin 2048) (j : Fin 256) :
    iblk m c 2 t (ix2 r j) = m ((c : Thread nD τ).loc main_arg2) (ix2 r (colOf t j)) := by
  blk_ext [iblk, V, colOf, (index_in t).2.2.1]

theorem iblk3_apply (t : Fin cfg0.N) (j : Fin 256) :
    iblk m c 3 t (ix2 (0 : Fin 1) j) = m ((c : Thread nD τ).loc main_arg3) (ix1 (colOf t j)) := by
  unfold iblk colOf
  rw [View.read_apply]
  entry_read
  pointwise
  blk_ext [(index_in t).2.2.2.1]

theorem iblk4_apply (t : Fin cfg0.N) (r : Fin 4096) (j : Fin 256) :
    iblk m c 4 t (ix2 r j) = m ((c : Thread nD τ).loc main_arg4) (ix2 r (colOf t j)) := by
  blk_ext [iblk, V, colOf, (index_in t).2.2.2.2]

/-- The activations' block is the same at every point. -/
theorem iblk0_const (t t' : Fin cfg0.N) : iblk m c 0 t = iblk m c 0 t' := by
  funext y
  rw [ValueIdx.eq_ix2 y]
  exact (iblk0_apply m c t _ _).trans (iblk0_apply m c t' _ _).symm

/-! ## What the points leave -/

/-- After every point the carried scratch array holds the transposed activations. -/
theorem scratch_eq : ∀ (n : ℕ) (hn : n < cfg0.N), (outsAt0 m c n hn).2.2.2.2 = k0_pay2 (iblk m c 0 ⟨n, hn⟩)
  | 0, hn => by
      rw [outsAt0_A m c ⟨0, hn⟩ rfl]
      dsimp only
      exact (out_A (F := F) _ _ _ _ _ _ _ _ _ _ _ _ _ _ _ _ _ _ _ _ _ _ _ _ _ _ _ _ _ _ _ _).2.2.2.2
  | n + 1, hn => by
      rw [outsAt0_B m c ⟨n + 1, hn⟩ (by have : n + 1 < 43 := tlt ⟨n + 1, hn⟩; show ¬ (n + 1) % 43 = 0; omega)]
      dsimp only [sout0_B_0]
      exact (scratch_eq n (Nat.lt_of_succ_lt hn)).trans (congrArg k0_pay2 (iblk0_const m c _ _))

/-- What point `t` leaves in the four output blocks: the same functions of its blocks at every point. -/
theorem outs_eq (t : Fin cfg0.N) :
    (outsAt0 m c t.val t.isLt).1 = recF (iblk m c 0 t) (iblk m c 1 t) (iblk m c 2 t) (iblk m c 3 t) (iblk m c 4 t) ∧
    (outsAt0 m c t.val t.isLt).2.1 = regF (iblk m c 4 t) ∧
    (outsAt0 m c t.val t.isLt).2.2.1 = eF (iblk m c 0 t) (iblk m c 1 t) (iblk m c 2 t) (iblk m c 3 t) (iblk m c 4 t) ∧
    (outsAt0 m c t.val t.isLt).2.2.2.1 = View.canon
      (dvP (iblk m c 0 t) (iblk m c 1 t) (iblk m c 2 t) (iblk m c 3 t) (iblk m c 4 t) (k0_pay2 (iblk m c 0 t))) := by
  by_cases h0 : t.val % 43 = 0
  · rw [outsAt0_A m c t h0]
    have h := out_A (F := F) c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8 t) scM0_0
      (Memref.isWhole_whole _) scM0_1 (Memref.isWhole_whole _) scM0_2 (Memref.isWhole_whole _)
      (iblk m c 0 t) (iblk m c 1 t) (iblk m c 2 t) (iblk m c 3 t) (iblk m c 4 t) ((hcond0_0 t).mpr h0)
    dsimp only
    exact ⟨h.1, h.2.1, h.2.2.1, h.2.2.2.1⟩
  · have e : (outsAt0 m c (t.val - 1) (by have := t.isLt; omega)).2.2.2.2 = k0_pay2 (iblk m c 0 t) :=
      (scratch_eq m c (t.val - 1) (by have := t.isLt; omega)).trans (congrArg k0_pay2 (iblk0_const m c _ _))
    have h := out_B (F := F) c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8 t) scM0_0
      (Memref.isWhole_whole _) scM0_1 (Memref.isWhole_whole _) scM0_2 (Memref.isWhole_whole _)
      (iblk m c 0 t) (iblk m c 1 t) (iblk m c 2 t) (iblk m c 3 t) (iblk m c 4 t) (fun h => h0 ((hcond0_0 t).mp h))
      (k0_pay2 (iblk m c 0 t))
    rw [outsAt0_B m c t h0, e]
    dsimp only
    exact h

/-! ## The result arrays -/

/-- The point whose column block holds column `n`. -/
def ptOf (n : Fin 11008) : Fin cfg0.N := ⟨n.val / 256, lt_of_lt_of_eq (by omega) N_0.symm⟩

/-- Column `n`'s place in its column block. -/
def locOf (n : Fin 11008) : Fin 256 := ⟨n.val % 256, by omega⟩

theorem colOf_ptOf (n : Fin 11008) : colOf (ptOf n) (locOf n) = n :=
  Fin.ext (by show 256 * (n.val / 256) + n.val % 256 = n.val; omega)

/-- The reconstruction errors at column `n`, as the point that wrote it left it. -/
theorem G5_apply (n : Fin 11008) :
    Value.G5 m c (ix2 (0 : Fin 1) n) = (outsAt0 m c (ptOf n).val (ptOf n).isLt).1 (ix2 (0 : Fin 1) (locOf n)) := by
  have hp : Value.pt5Of (ix2 (0 : Fin 1) n) = (ptOf n).val := by
    show 43 * (0 / 1 - 0) + 1 * (n.val / 256 - 0) = n.val / 256; omega
  have hl : Value.loc5Of (ix2 (0 : Fin 1) n) = ix2 (0 : Fin 1) (locOf n) := by
    funext a; fin_cases a <;> [exact Fin.ext (Nat.mod_eq_of_lt (0 : Fin 1).isLt); rfl]
  unfold Value.G5
  rw [dif_pos (by rw [hp]; exact (ptOf n).isLt), Value.outsAt0_sweep, hl]
  exact congrArg (fun x => x.1 (ix2 (0 : Fin 1) (locOf n))) (Value.fold0_congr m c _ _ _ _ hp)

/-- The regularisers at column `n`, as the point that wrote it left it. -/
theorem G6_apply (n : Fin 11008) :
    Value.G6 m c (ix2 (0 : Fin 1) n) = (outsAt0 m c (ptOf n).val (ptOf n).isLt).2.1 (ix2 (0 : Fin 1) (locOf n)) := by
  have hp : Value.pt6Of (ix2 (0 : Fin 1) n) = (ptOf n).val := by
    show 43 * (0 / 1 - 0) + 1 * (n.val / 256 - 0) = n.val / 256; omega
  have hl : Value.loc6Of (ix2 (0 : Fin 1) n) = ix2 (0 : Fin 1) (locOf n) := by
    funext a; fin_cases a <;> [exact Fin.ext (Nat.mod_eq_of_lt (0 : Fin 1).isLt); rfl]
  unfold Value.G6
  rw [dif_pos (by rw [hp]; exact (ptOf n).isLt), Value.outsAt0_sweep, hl]
  exact congrArg (fun x => x.2.1 (ix2 (0 : Fin 1) (locOf n))) (Value.fold0_congr m c _ _ _ _ hp)

/-- The narrowed error at column `n`, as the point that wrote it left it. -/
theorem G7_apply (r : Fin 1024) (n : Fin 11008) :
    Value.G7 m c (ix2 r n) = (outsAt0 m c (ptOf n).val (ptOf n).isLt).2.2.1 (ix2 r (locOf n)) := by
  have hp : Value.pt7Of (ix2 r n) = (ptOf n).val := by
    show 43 * (r.val / 1024 - 0) + 1 * (n.val / 256 - 0) = n.val / 256; omega
  have hl : Value.loc7Of (ix2 r n) = ix2 r (locOf n) := by
    funext a; fin_cases a <;> [exact Fin.ext (Nat.mod_eq_of_lt r.isLt); rfl]
  unfold Value.G7
  rw [dif_pos (by rw [hp]; exact (ptOf n).isLt), Value.outsAt0_sweep, hl]
  exact congrArg (fun x => x.2.2.1 (ix2 r (locOf n))) (Value.fold0_congr m c _ _ _ _ hp)

/-- The gradient at column `n`, as the point that wrote it left it. -/
theorem G8_apply (r : Fin 4096) (n : Fin 11008) :
    Value.G8 m c (ix2 r n) = (outsAt0 m c (ptOf n).val (ptOf n).isLt).2.2.2.1 (ix2 r (locOf n)) := by
  have hp : Value.pt8Of (ix2 r n) = (ptOf n).val := by
    show 43 * (r.val / 4096 - 0) + 1 * (n.val / 256 - 0) = n.val / 256; omega
  have hl : Value.loc8Of (ix2 r n) = ix2 r (locOf n) := by
    funext a; fin_cases a <;> [exact Fin.ext (Nat.mod_eq_of_lt r.isLt); rfl]
  unfold Value.G8
  rw [dif_pos (by rw [hp]; exact (ptOf n).isLt), Value.outsAt0_sweep, hl]
  exact congrArg (fun x => x.2.2.2.1 (ix2 r (locOf n))) (Value.fold0_congr m c _ _ _ _ hp)

end Cert.Adaround
-- ==== Proof.Spec.lean ====
/- The step's mathematics over the extended reals, entry by entry: the rounding offset, the quantised weight, the
   error and the three values taken from it. The kernel and the reference are each brought to these functions.
   The offset and everything made of it alone are real numbers, whatever the rounding variable. -/
module

public import Idealize.ShloMosaic.PureOps.Ideal.Laws

@[expose] public section

noncomputable section

namespace Cert.Adaround

open Idealize.ShloMosaic

/-! ## The constants -/

theorem f32_zero : Ideal.ofBits .f32 0x00000000#32 = ((0 : ℝ) : EReal) := by
  simp [Ideal.ofBits, Ideal.ieee]
theorem f32_one : Ideal.ofBits .f32 0x3F800000#32 = ((1 : ℝ) : EReal) := by
  simp [Ideal.ofBits, Ideal.ieee, -EReal.coe_mul]; norm_num
theorem f32_neg_one : Ideal.ofBits .f32 0xBF800000#32 = ((-1 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_seven : Ideal.ofBits .f32 0x40E00000#32 = ((7 : ℝ) : EReal) := by
  simp [Ideal.ofBits, Ideal.ieee, -EReal.coe_mul]; norm_num
theorem f32_eight : Ideal.ofBits .f32 0x41000000#32 = ((8 : ℝ) : EReal) := by
  simp [Ideal.ofBits, Ideal.ieee, -EReal.coe_mul]; norm_num
theorem f32_neg_eight : Ideal.ofBits .f32 0xC1000000#32 = ((-8 : ℝ) : EReal) := by
  simp [Ideal.ofBits, Ideal.ieee, -EReal.coe_mul]; norm_num
theorem f32_ten : Ideal.ofBits .f32 0x41200000#32 = ((10 : ℝ) : EReal) := by
  simp [Ideal.ofBits, Ideal.ieee, -EReal.coe_mul]; norm_num
theorem f32_eleven : Ideal.ofBits .f32 0x41300000#32 = ((11 : ℝ) : EReal) := by
  simp [Ideal.ofBits, Ideal.ieee, -EReal.coe_mul]; norm_num
theorem f32_256 : Ideal.ofBits .f32 0x43800000#32 = ((256 : ℝ) : EReal) := by
  simp [Ideal.ofBits, Ideal.ieee, -EReal.coe_mul]; norm_num
theorem f32_1024 : Ideal.ofBits .f32 0x44800000#32 = ((1024 : ℝ) : EReal) := by
  simp [Ideal.ofBits, Ideal.ieee, -EReal.coe_mul]; norm_num
theorem f32_4096 : Ideal.ofBits .f32 0x45800000#32 = ((4096 : ℝ) : EReal) := by
  simp [Ideal.ofBits, Ideal.ieee, -EReal.coe_mul]; norm_num
theorem f32_half : Ideal.ofBits .f32 0x3F000000#32 = ((1 / 2 : ℝ) : EReal) := by
  simp [Ideal.ofBits, Ideal.ieee, -EReal.coe_mul]; norm_num
theorem f32_neg_half : Ideal.ofBits .f32 0xBF000000#32 = ((-(1 / 2) : ℝ) : EReal) := by
  simp [Ideal.ofBits, Ideal.ieee, -EReal.coe_mul]; norm_num
theorem f32_quarter : Ideal.ofBits .f32 0x3E800000#32 = ((1 / 4 : ℝ) : EReal) := by
  simp [Ideal.ofBits, Ideal.ieee, -EReal.coe_mul]; norm_num
theorem f32_inv_1024 : Ideal.ofBits .f32 0x3A800000#32 = ((1 / 1024 : ℝ) : EReal) := by
  simp [Ideal.ofBits, Ideal.ieee, -EReal.coe_mul]; norm_num
theorem f32_inv_4096 : Ideal.ofBits .f32 0x39800000#32 = ((1 / 4096 : ℝ) : EReal) := by
  simp [Ideal.ofBits, Ideal.ieee, -EReal.coe_mul]; norm_num
theorem f32_neg_inv_256 : Ideal.ofBits .f32 0xBB800000#32 = ((-(1 / 256) : ℝ) : EReal) := by
  simp [Ideal.ofBits, Ideal.ieee, -EReal.coe_mul]; norm_num
theorem f32_neg_inv_512 : Ideal.ofBits .f32 0xBB000000#32 = ((-(1 / 512) : ℝ) : EReal) := by
  simp [Ideal.ofBits, Ideal.ieee, -EReal.coe_mul]; norm_num
theorem bf16_half : Ideal.ofBits .bf16 0x3F00#16 = ((1 / 2 : ℝ) : EReal) := by
  simp [Ideal.ofBits, Ideal.ieee, -EReal.coe_mul]; norm_num

/-! ## The rounding offset -/

/-- The hyperbolic tangent of half the rounding variable, a real number at the infinities too. -/
def tR : EReal → ℝ
  | ⊥ => -1
  | ⊤ => 1
  | (r : ℝ) => Real.tanh (1 / 2 * r)

/-- The rounding offset less a half: `3/5 · tanh (v/2)` held to `[-1/2, 1/2]`. -/
def cR (v : EReal) : ℝ := min (1 / 2) (max (-(1 / 2)) (3 / 5 * tR v))

/-- Half the rounding offset's derivative: zero where the offset is held. -/
def dhR (v : EReal) : ℝ := if cR v * cR v < 1 / 4 then 3 / 20 - 5 / 12 * (cR v * cR v) else 0

theorem tR_abs_le (v : EReal) : -1 ≤ tR v ∧ tR v ≤ 1 := by
  induction v with
  | bot => exact ⟨le_refl _, by show (-1 : ℝ) ≤ 1; norm_num⟩
  | top => exact ⟨by show (-1 : ℝ) ≤ 1; norm_num, le_refl _⟩
  | coe r => exact ⟨(Real.neg_one_lt_tanh _).le, (Real.tanh_lt_one _).le⟩

theorem cR_abs_le (v : EReal) : -(1 / 2) ≤ cR v ∧ cR v ≤ 1 / 2 :=
  ⟨le_min (by norm_num) (le_max_left _ _), min_le_left _ _⟩

theorem dhR_nonneg (v : EReal) : 0 ≤ dhR v := by
  unfold dhR
  split
  · linarith
  · exact le_refl _

/-! ## The step -/

variable (X : Fin 1024 → Fin 4096 → EReal) (W V : Fin 4096 → Fin 11008 → EReal) (S : Fin 11008 → EReal)
  (f : Fin 4096 → Fin 11008 → ℝ)

/-- The code plus its rounding offset. -/
def qsS (r : Fin 4096) (n : Fin 11008) : ℝ := f r n + 1 / 2 + cR (V r n)

/-- The quantised weight, held to the four-bit range. -/
def qS (r : Fin 4096) (n : Fin 11008) : ℝ := min 7 (max (-8) (qsS V f r n))

/-- The weight's error. -/
def dS (r : Fin 4096) (n : Fin 11008) : EReal := W r n - S n * (qS V f r n : EReal)

/-- The output's error. -/
def eS (i : Fin 1024) (n : Fin 11008) : EReal := ∑ r : Fin 4096, X i r * dS W V S f r n

/-- The mean squared error of a column. -/
def recS (n : Fin 11008) : EReal := (∑ i : Fin 1024, eS X W V S f i n * eS X W V S f i n) * ((1 / 1024 : ℝ) : EReal)

/-- The regulariser of a column. -/
def regS (n : Fin 11008) : ℝ := 1 / 4096 * (4096 - 256 * ∑ r : Fin 4096, cR (V r n) ^ 8)

/-- The error carried back to the weights. -/
def gS (r : Fin 4096) (n : Fin 11008) : EReal := ∑ i : Fin 1024, X i r * eS X W V S f i n

/-- The gradient at the rounding variable. -/
def dvS (r : Fin 4096) (n : Fin 11008) : EReal :=
  gS X W V S f r n * ((if qsS V f r n ≤ 7 then ((-(1 / 256) : ℝ) : EReal) * S n else 0) * (dhR (V r n) : EReal))
    - ((cR (V r n) ^ 7 * dhR (V r n) : ℝ) : EReal)

end Cert.Adaround
-- ==== Proof.TileVal.lean ====
/- The tile functions of `Tiles.lean` at exact arithmetic, read at an index: each is the step's mathematics
   (`Spec.lean`) at the row the tile's row stands for. -/
module

public import proofs.«01_k».proof.Proof.Points
public import proofs.«01_k».proof.Proof.Spec

@[expose] public section

set_option maxRecDepth 16384

noncomputable section

namespace Cert.Adaround

open Cert.KernelIdeal Cert.KernelIdeal.Gen Idealize.ShloMosaic Idealize.ShloMosaic.TcCoe Idealize.SL.Sem

/-! ## The loads -/

/-- Row `r` of tile `k`. -/
def rowOf (k : ℕ) (h : k < 16) (r : Fin 256) : Fin 4096 := ⟨256 * k + r.val, by omega⟩

section
variable {F : FTy → Type} [FloatOps F] [Named F]

theorem ld_row {e : EltTy} (x : Vec F S4096x256 e) (k : ℕ) (h : k < 16) (r : Fin 256) (j : Fin 256) :
    ldRow x k h (ix2 r j) = x (ix2 (rowOf k h r) j) := by
  unfold ldRow rowR rowOf
  pointwise
  blk_ext []

theorem ld_half (x : Vec F S2048x256 .i8) (k : ℕ) (h : k < 16) (r : Fin 128) (j : Fin 256) :
    ldHalf x k h (ix2 r j) = x (ix2 (⟨128 * k + r.val, by omega⟩ : Fin 2048) j) := by
  unfold ldHalf halfR
  pointwise
  blk_ext []

theorem ld_col (x : Vec F S1024x4096 .bf16) (k : ℕ) (h : k < 16) (i : Fin 1024) (r : Fin 256) :
    ldCol x k h (ix2 i r) = x (ix2 i (rowOf k h r)) := by
  unfold ldCol colR rowOf
  pointwise
  blk_ext []

theorem ld_xt (x : Vec F S4096x1024 .bf16) (k : ℕ) (h : k < 16) (r : Fin 256) (i : Fin 1024) :
    ldXt x k h (ix2 r i) = x (ix2 (rowOf k h r) i) := by
  unfold ldXt xtR rowOf
  pointwise
  blk_ext []

end

/-! ## The named constants -/

theorem three_fifths : Named.named (F := Ideal) Cert.KernelIdeal.κ "three_fifths" (φ := .f32) 0x3F19999A#32
    = ((3 / 5 : ℝ) : EReal) := IdealRules.named_const.ideal_named_scalar _ _ _ _ rfl
theorem five_twelfths : Named.named (F := Ideal) Cert.KernelIdeal.κ "five_twelfths" (φ := .f32) 0x3ED55555#32
    = ((5 / 12 : ℝ) : EReal) := IdealRules.named_const.ideal_named_scalar _ _ _ _ rfl
theorem three_twentieths : Named.named (F := Ideal) Cert.KernelIdeal.κ "three_twentieths" (φ := .f32) 0x3E19999A#32
    = ((3 / 20 : ℝ) : EReal) := IdealRules.named_const.ideal_named_scalar _ _ _ _ rfl

/-! ## The payloads at an index -/

/-- Code `p` of a byte, `0` the low half and `1` the high: the half's bits as a signed number. -/
def nib (b : BitVec 8) (p : ℕ) : ℝ := (((if p < 1 then b else b >>> 4).setWidth 4).toInt : ℝ)

theorem low_half : ∀ b : BitVec 8, (b.setWidth 32).setWidth 4 = b.setWidth 4 := by decide +kernel
theorem high_half : ∀ b : BitVec 8,
    (IntOp.shrsi ArithUnit.vector (b.setWidth 32) 4#32).setWidth 4 = (b >>> 4).setWidth 4 := by decide +kernel

theorem tanh_half (v : EReal) : Ideal.tanh (((1 / 2 : ℝ) : EReal) * v) = (tR v : EReal) := by
  induction v with
  | bot => rw [EReal.coe_mul_bot_of_pos (by norm_num)]; rfl
  | top => rw [EReal.coe_mul_top_of_pos (by norm_num)]; rfl
  | coe r => rw [← EReal.coe_mul]; rfl

theorem pay7_apply (v : Vec Ideal S256x256 .f32) (r j : Fin 256) :
    k0_pay7 v (ix2 r j) = (cR (v (ix2 r j)) : EReal) := by
  pointwise [k0_pay7]
  rw [f32_half, f32_neg_half, three_fifths, tanh_half]
  unfold cR
  norm_cast

theorem pay8_apply (b : Vec Ideal S128x256 .i8) (v : Vec Ideal S256x256 .f32) (r j : Fin 256) :
    k0_pay8 b v (ix2 r j)
      = ((nib (b (ix2 (⟨r.val / 2, by omega⟩ : Fin 128) j)) (r.val % 2) + 1 / 2 + cR (v (ix2 r j)) : ℝ) : EReal) := by
  pointwise [k0_pay8]
  rw [bf16_half, pay7_apply, EReal.coe_add, EReal.coe_add]
  congr 2
  show (((BitVec.setWidth 4 _).toInt : ℝ) : EReal) = _
  unfold nib
  split
  · rw [low_half]
  · rw [high_half]

theorem pay9_apply (b : Vec Ideal S128x256 .i8) (v : Vec Ideal S256x256 .f32) (r j : Fin 256) :
    k0_pay9 b v (ix2 r j)
      = ((min 7 (max (-8) (nib (b (ix2 (⟨r.val / 2, by omega⟩ : Fin 128) j)) (r.val % 2) + 1 / 2 + cR (v (ix2 r j)))) : ℝ) : EReal) := by
  pointwise [k0_pay9]
  rw [f32_seven, f32_neg_eight, pay8_apply]
  norm_cast

theorem pay12_apply (v : FVec Ideal S256x256 .f32) (r j : Fin 256) (x : EReal) (h : v (ix2 r j) = (cR x : EReal)) :
    k0_pay12 v (ix2 r j) = (dhR x : EReal) := by
  pointwise [k0_pay12, k0_pay10]
  rw [h, f32_quarter, three_twentieths, five_twelfths]
  unfold dhR
  norm_cast
  split <;> rfl

theorem pay13_apply (s : FVec Ideal S1x256 .f32) (v u : FVec Ideal S256x256 .f32) (r j : Fin 256) (x : EReal)
    (h : v (ix2 r j) = (cR x : EReal)) :
    k0_pay13 s v u (ix2 r j) = (if u (ix2 r j) ≤ ((7 : ℝ) : EReal) then s (ix2 (0 : Fin 1) j) else 0) * (dhR x : EReal) := by
  pointwise [k0_pay13]
  rw [pay12_apply _ _ _ _ h, f32_seven]

theorem pay14_apply (v : FVec Ideal S256x256 .f32) (r j : Fin 256) (x : EReal) (h : v (ix2 r j) = (cR x : EReal)) :
    k0_pay14 v (ix2 r j) = ((cR x ^ 7 * dhR x : ℝ) : EReal) := by
  pointwise [k0_pay14, k0_pay11, k0_pay10]
  rw [pay12_apply _ _ _ _ h, h]
  norm_cast
  ring_nf

theorem pay15_apply (s : FVec Ideal S8x256 .f32) (v : FVec Ideal S256x256 .f32) (a : Fin 8) (j : Fin 256) :
    k0_pay15 s v (ix2 a j) = s (ix2 a j) + ∑ x : Fin 32, k0_pay11 v (ix2 (⟨x.val * 8 + a.val, by omega⟩ : Fin 256) j)
      * k0_pay11 v (ix2 (⟨x.val * 8 + a.val, by omega⟩ : Fin 256) j) := by
  pointwise [k0_pay15]

theorem pay11_sq (v : FVec Ideal S256x256 .f32) (r j : Fin 256) (x : EReal) (h : v (ix2 r j) = (cR x : EReal)) :
    k0_pay11 v (ix2 r j) * k0_pay11 v (ix2 r j) = ((cR x ^ 8 : ℝ) : EReal) := by
  pointwise [k0_pay11, k0_pay10]
  rw [h]
  norm_cast
  ring_nf

theorem pay16_apply (s : FVec Ideal S1x256 .f32) (a : FVec Ideal S1024x256 .f32) (q : FVec Ideal S256x256 .f32)
    (w : Vec Ideal S256x256 .f32) (x : Vec Ideal S1024x256 .bf16) (i : Fin 1024) (j : Fin 256) :
    k0_pay16 s a q w x (ix2 i j)
      = a (ix2 i j) + ∑ r : Fin 256, x (ix2 i r) * (w (ix2 r j) - s (ix2 (0 : Fin 1) j) * q (ix2 r j)) := by
  pointwise [k0_pay16]

theorem pay1_apply (e : FVec Ideal S1024x256 .bf16) (x : Vec Ideal S256x1024 .bf16) (a b : Vec Ideal S256x256 .f32)
    (r j : Fin 256) :
    k0_pay1 e x a b (ix2 r j) = (∑ i : Fin 1024, x (ix2 r i) * e (ix2 i j)) * a (ix2 r j) - b (ix2 r j) := by
  pointwise [k0_pay1]

theorem pay2_apply (x : Vec Ideal S1024x4096 .bf16) (r : Fin 4096) (i : Fin 1024) :
    k0_pay2 x (ix2 r i) = x (ix2 i r) := by
  pointwise [k0_pay2]

theorem pay3_apply (s : Vec Ideal S1x256 .f32) (j : Fin 256) : k0_pay3 s (ix2 (0 : Fin 1) j) = s (ix2 (0 : Fin 1) j) := by
  pointwise [k0_pay3]

theorem pay4_apply (s : Vec Ideal S1x256 .f32) (j : Fin 256) :
    k0_pay4 s (ix2 (0 : Fin 1) j) = ((-(1 / 256) : ℝ) : EReal) * s (ix2 (0 : Fin 1) j) := by
  pointwise [k0_pay4, k0_pay3]
  rw [f32_neg_inv_256]

/-! ## The tiles over the block -/

/-- The sixteen tiles' rows are the block's rows. -/
theorem sum_rows {M : Type} [AddCommMonoid M] (g : Fin 4096 → M) :
    ∑ k : Fin 16, ∑ r : Fin 256, g (rowOf k.val k.isLt r) = ∑ r : Fin 4096, g r := by
  rw [← Fintype.sum_prod_type']
  refine Fintype.sum_equiv (finProdFinEquiv (m := 16) (n := 256)) _ _ fun p => ?_
  exact congrArg g (Fin.ext (by show 256 * p.1.val + p.2.val = p.2.val + 256 * p.1.val; omega))

variable (x0 : Vec Ideal S1024x4096 .bf16) (x1 : Vec Ideal S4096x256 .f32) (x2 : Vec Ideal S2048x256 .i8)
  (x3 : Vec Ideal S1x256 .f32) (x4 : Vec Ideal S4096x256 .f32)

/-- The code at row `r` of a block. -/
def fB (r : Fin 4096) (j : Fin 256) : ℝ := nib (x2 (ix2 (⟨r.val / 2, by omega⟩ : Fin 2048) j)) (r.val % 2)

/-- The code plus its rounding offset. -/
def qsB (r : Fin 4096) (j : Fin 256) : ℝ := fB x2 r j + 1 / 2 + cR (x4 (ix2 r j))

theorem nib_tile (k : ℕ) (h : k < 16) (r j : Fin 256) :
    nib (ldHalf x2 k h (ix2 (⟨r.val / 2, by omega⟩ : Fin 128) j)) (r.val % 2) = fB x2 (rowOf k h r) j := by
  rw [ld_half]
  exact congrArg₂ nib
    (congrArg x2 (congrArg (fun a => ix2 a j) (Fin.ext (by show 128 * k + r.val / 2 = (256 * k + r.val) / 2; omega))))
    (by show r.val % 2 = (256 * k + r.val) % 2; omega)

theorem cT_apply (k : ℕ) (h : k < 16) (r j : Fin 256) :
    cT x4 k h (ix2 r j) = (cR (x4 (ix2 (rowOf k h r) j)) : EReal) := by
  unfold cT
  rw [pay7_apply, ld_row]

theorem qsT_apply (k : ℕ) (h : k < 16) (r j : Fin 256) :
    qsT x2 x4 k h (ix2 r j) = (qsB x2 x4 (rowOf k h r) j : EReal) := by
  unfold qsT qsB
  rw [pay8_apply, ld_row, nib_tile]

/-- The weight's error at row `r` of a block. -/
def dB (r : Fin 4096) (j : Fin 256) : EReal :=
  x1 (ix2 r j) - x3 (ix2 (0 : Fin 1) j) * ((min 7 (max (-8) (qsB x2 x4 r j)) : ℝ) : EReal)

theorem accT_apply (k : ℕ) (h : k < 16) (a : FVec Ideal S1024x256 .f32) (i : Fin 1024) (j : Fin 256) :
    accT x0 x1 x2 x3 x4 k h a (ix2 i j)
      = a (ix2 i j) + ∑ r : Fin 256, x0 (ix2 i (rowOf k h r)) * dB x1 x2 x3 x4 (rowOf k h r) j := by
  unfold accT
  rw [pay16_apply]
  refine congrArg _ (Finset.sum_congr rfl fun r _ => ?_)
  rw [ld_col, ld_row, pay3_apply, pay9_apply, ld_row, nib_tile]
  rfl

theorem accN_apply (i : Fin 1024) (j : Fin 256) : ∀ (n : ℕ) (h : n ≤ 16), accN x0 x1 x2 x3 x4 n h (ix2 i j)
      = ∑ k : Fin n, ∑ r : Fin 256, x0 (ix2 i (rowOf k.val (by omega) r)) * dB x1 x2 x3 x4 (rowOf k.val (by omega) r) j
  | 0, h => by
      unfold accN
      pointwise [k0_pay5]
      exact (Finset.sum_of_isEmpty _).symm
  | n + 1, h => by
      unfold accN
      rw [accT_apply, accN_apply i j n (by omega), Fin.sum_univ_castSucc (n := n)]
      rfl

/-- The error at an entry of a block. -/
theorem accF_apply (i : Fin 1024) (j : Fin 256) :
    accF x0 x1 x2 x3 x4 (ix2 i j) = ∑ r : Fin 4096, x0 (ix2 i r) * dB x1 x2 x3 x4 r j :=
  (accN_apply x0 x1 x2 x3 x4 i j 16 (le_refl 16)).trans (sum_rows fun r => x0 (ix2 i r) * dB x1 x2 x3 x4 r j)

theorem eF_apply (i : Fin 1024) (j : Fin 256) :
    eF x0 x1 x2 x3 x4 (ix2 i j) = ∑ r : Fin 4096, x0 (ix2 i r) * dB x1 x2 x3 x4 r j :=
  accF_apply x0 x1 x2 x3 x4 i j

theorem recF_apply (j : Fin 256) : recF x0 x1 x2 x3 x4 (ix2 (0 : Fin 1) j)
    = (∑ i : Fin 1024, accF x0 x1 x2 x3 x4 (ix2 i j) * accF x0 x1 x2 x3 x4 (ix2 i j)) * ((1 / 1024 : ℝ) : EReal) := by
  pointwise [recF]
  rw [f32_inv_1024]

/-- A sum of real numbers is the real sum. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem p8N_apply (a : Fin 8) (j : Fin 256) : ∀ (n : ℕ) (h : n ≤ 16), p8N x4 n h (ix2 a j)
      = ((∑ k : Fin n, ∑ x : Fin 32, cR (x4 (ix2 (rowOf k.val (by omega) (⟨x.val * 8 + a.val, by omega⟩ : Fin 256)) j)) ^ 8 : ℝ) : EReal)
  | 0, h => by
      unfold p8N
      pointwise [k0_pay6]
      simp
  | n + 1, h => by
      unfold p8N
      rw [pay15_apply, p8N_apply a j n (by omega), Fin.sum_univ_castSucc (n := n), EReal.coe_add]
      congr 1
      rw [← coe_sum]
      exact Finset.sum_congr rfl fun x _ => pay11_sq _ _ _ _ (cT_apply x4 n (by omega) _ j)

/-- A tile's rows, eight apart from each of the first eight, are its rows. -/
theorem sum_eights (g : Fin 256 → ℝ) :
    ∑ a : Fin 8, ∑ x : Fin 32, g ⟨x.val * 8 + a.val, by omega⟩ = ∑ r : Fin 256, g r := by
  rw [Finset.sum_comm, ← Fintype.sum_prod_type']
  refine Fintype.sum_equiv (finProdFinEquiv (m := 32) (n := 8)) _ _ fun p => ?_
  exact congrArg g (Fin.ext (by show p.1.val * 8 + p.2.val = p.2.val + 8 * p.1.val; omega))

theorem regF_apply (j : Fin 256) : regF x4 (ix2 (0 : Fin 1) j)
    = ((1 / 4096 * (4096 - 256 * ∑ r : Fin 4096, cR (x4 (ix2 r j)) ^ 8) : ℝ) : EReal) := by
  have e : ∑ a : Fin 8, p8N x4 16 (le_refl 16) (ix2 a j) = ((∑ r : Fin 4096, cR (x4 (ix2 r j)) ^ 8 : ℝ) : EReal) := by
    rw [Finset.sum_congr rfl fun a _ => p8N_apply x4 a j 16 (le_refl 16), coe_sum, Finset.sum_comm,
      Finset.sum_congr rfl fun k _ => sum_eights fun r => cR (x4 (ix2 (rowOf k.val k.isLt r) j)) ^ 8,
      sum_rows fun r => cR (x4 (ix2 r j)) ^ 8]
  pointwise [regF]
  rw [e, f32_inv_4096, f32_4096, f32_256]
  norm_cast

/-! ## The arrays written tile by tile -/

theorem tiles_mem {α : Type} (f : (k : ℕ) → k < 16 → α) (k : ℕ) (hk : k < 16) : ∀ (n : ℕ) (h : n ≤ 16), k < n → f k hk ∈ tiles f n h
  | 0, _, hn => absurd hn (Nat.not_lt_zero k)
  | n + 1, h, hn => by
      by_cases e : k = n
      · subst e; exact List.mem_cons_self
      · exact List.mem_cons_of_mem _ (tiles_mem f k hk n _ (by omega))

theorem emb_row (k : ℕ) (h : k < 16) (r j : Fin 256) : (rowR k h).emb (ix2 r j) = ix2 (rowOf k h r) j := by
  unfold rowR rowOf
  blk_ext []

/-- An array written tile by tile holds what the tiles hold. -/
theorem canon_tiles (G : FVec Ideal S4096x256 .f32) (f : (k : ℕ) → k < 16 → FVec Ideal S256x256 .f32)
    (hf : ∀ k h r j, f k h (ix2 r j) = G (ix2 (rowOf k h r) j)) :
    View.canon (tiles (fun k h => (⟨rowR k h, f k h⟩ : View.Piece (Elt Ideal) S4096x256 .f32)) 16 (le_refl 16)) = G := by
  funext y
  refine View.canon_apply_of_pieces (Val := Elt Ideal) (e := .f32) G _ (fun p hp x => ?_) y ?_
  · obtain ⟨k, h, rfl⟩ := mem_tiles _ _ hp
    have hx : x = ix2 (x 0 : Fin 256) (x 1 : Fin 256) := ValueIdx.eq_ix2 x
    rw [hx]
    exact (hf k h _ _).trans (congrArg G (emb_row k h _ _).symm)
  · have hy0 : (y 0).val < 4096 := (y 0).isLt
    refine ⟨_, tiles_mem _ ((y 0).val / 256) (by omega) 16 (le_refl 16) (by omega), ?_⟩
    have e : (rowR ((y 0).val / 256) (by omega)).emb (ix2 (⟨(y 0).val % 256, by omega⟩ : Fin 256) (y 1 : Fin 256)) = y := by
      refine (emb_row _ (by omega) _ _).trans ?_
      funext a
      fin_cases a
      · exact Fin.ext (by show 256 * ((y 0).val / 256) + (y 0).val % 256 = (y 0).val; omega)
      · rfl
    exact e.subst (motive := fun i => i ∈ (rowR ((y 0).val / 256) (by omega)).set) (LoadRect.idx_mem _ _)

/-- The gradient at an entry of a block, from the transposed activations. -/
theorem dvP_apply (r : Fin 4096) (j : Fin 256) :
    View.canon (dvP x0 x1 x2 x3 x4 (k0_pay2 x0)) (ix2 r j)
      = (∑ i : Fin 1024, x0 (ix2 i r) * eF x0 x1 x2 x3 x4 (ix2 i j))
          * ((if qsB x2 x4 r j ≤ 7 then ((-(1 / 256) : ℝ) : EReal) * x3 (ix2 (0 : Fin 1) j) else 0) * (dhR (x4 (ix2 r j)) : EReal))
        - ((cR (x4 (ix2 r j)) ^ 7 * dhR (x4 (ix2 r j)) : ℝ) : EReal) := by
  have hA : View.canon (aP x2 x3 x4) = fun y : S4096x256.Idx =>
      (if qsB x2 x4 (y 0) (y 1) ≤ 7 then ((-(1 / 256) : ℝ) : EReal) * x3 (ix2 (0 : Fin 1) (y 1)) else 0)
        * (dhR (x4 (ix2 (y 0) (y 1))) : EReal) :=
    canon_tiles _ _ fun k h r j => by
      unfold aT
      rw [pay13_apply _ _ _ _ _ _ (cT_apply x4 k h r j), pay4_apply, qsT_apply]
      norm_cast
  have hB : View.canon (bP x4) = fun y : S4096x256.Idx =>
      ((cR (x4 (ix2 (y 0) (y 1))) ^ 7 * dhR (x4 (ix2 (y 0) (y 1))) : ℝ) : EReal) :=
    canon_tiles _ _ fun k h r j => pay14_apply _ _ _ _ (cT_apply x4 k h r j)
  refine congrFun (canon_tiles (fun y : S4096x256.Idx =>
    (∑ i : Fin 1024, x0 (ix2 i (y 0)) * eF x0 x1 x2 x3 x4 (ix2 i (y 1)))
          * ((if qsB x2 x4 (y 0) (y 1) ≤ 7 then ((-(1 / 256) : ℝ) : EReal) * x3 (ix2 (0 : Fin 1) (y 1)) else 0)
            * (dhR (x4 (ix2 (y 0) (y 1))) : EReal))
        - ((cR (x4 (ix2 (y 0) (y 1))) ^ 7 * dhR (x4 (ix2 (y 0) (y 1))) : ℝ) : EReal)) _ fun k h r j => ?_) (ix2 r j)
  unfold dvT
  rw [pay1_apply, ld_row, ld_row, hA, hB]
  congr 2
  exact Finset.sum_congr rfl fun i _ => by rw [ld_xt, pay2_apply]; rfl

end Cert.Adaround
-- ==== Proof.KernelVal.lean ====
/- The kernel's four result arrays at an index: the values of the step (module Spec) at the argument arrays. -/
module

public import proofs.«01_k».proof.Proof.Points
public import proofs.«01_k».proof.Proof.TileVal

@[expose] public section

set_option maxRecDepth 16384

noncomputable section

namespace Cert.Adaround

open Cert.KernelIdeal Cert.KernelIdeal.Gen Idealize.ShloMosaic Idealize.ShloMosaic.TcCoe Idealize.SL.Sem

/-! ## The argument arrays as the step's data -/

/-- The activations: two batches of 512 rows as 1024 rows. -/
def XA (a : Vec Ideal S2x512x4096 .bf16) (i : Fin 1024) (d : Fin 4096) : EReal :=
  a (ix3 (⟨i.val / 512, by omega⟩ : Fin 2) (⟨i.val % 512, by omega⟩ : Fin 512) d)

/-- A 4096 by 11008 array (the weights, or the rounding variables). -/
def WA (a : Vec Ideal S4096x11008 .f32) (r : Fin 4096) (n : Fin 11008) : EReal := a (ix2 r n)

/-- The scale of each column. -/
def SA (a : Vec Ideal S11008 .f32) (n : Fin 11008) : EReal := a (ix1 n)

/-- The code at a row: the low half of its byte at an even row, the high half at an odd one. -/
def fA (a : Vec Ideal S2048x11008 .i8) (r : Fin 4096) (n : Fin 11008) : ℝ :=
  nib (a (ix2 (⟨r.val / 2, by omega⟩ : Fin 2048) n)) (r.val % 2)

variable (m : (ℓ : Loc nD τ sig) → Buf (Elt Ideal) ℓ) (c : Dev nD)

/-- The five argument arrays of a memory. -/
abbrev arg0 : Vec Ideal S2x512x4096 .bf16 := m ((c : Thread nD τ).loc main_arg0)
abbrev arg1 : Vec Ideal S4096x11008 .f32 := m ((c : Thread nD τ).loc main_arg1)
abbrev arg2 : Vec Ideal S2048x11008 .i8 := m ((c : Thread nD τ).loc main_arg2)
abbrev arg3 : Vec Ideal S11008 .f32 := m ((c : Thread nD τ).loc main_arg3)
abbrev arg4 : Vec Ideal S4096x11008 .f32 := m ((c : Thread nD τ).loc main_arg4)

/-! ## A column of a block is a column of the arrays -/

theorem qsB_block (n : Fin 11008) (r : Fin 4096) :
    qsB (iblk m c 2 (ptOf n)) (iblk m c 4 (ptOf n)) r (locOf n) = qsS (WA (arg4 m c)) (fA (arg2 m c)) r n := by
  unfold qsB fB qsS fA WA
  rw [iblk2_apply, iblk4_apply, colOf_ptOf]

theorem dB_block (n : Fin 11008) (r : Fin 4096) :
    dB (iblk m c 1 (ptOf n)) (iblk m c 2 (ptOf n)) (iblk m c 3 (ptOf n)) (iblk m c 4 (ptOf n)) r (locOf n)
      = dS (WA (arg1 m c)) (WA (arg4 m c)) (SA (arg3 m c)) (fA (arg2 m c)) r n := by
  unfold dB
  rw [qsB_block, iblk1_apply, iblk3_apply, colOf_ptOf]
  rfl

theorem accF_block (n : Fin 11008) (i : Fin 1024) :
    accF (iblk m c 0 (ptOf n)) (iblk m c 1 (ptOf n)) (iblk m c 2 (ptOf n)) (iblk m c 3 (ptOf n)) (iblk m c 4 (ptOf n))
        (ix2 i (locOf n))
      = eS (XA (arg0 m c)) (WA (arg1 m c)) (WA (arg4 m c)) (SA (arg3 m c)) (fA (arg2 m c)) i n := by
  rw [accF_apply]
  exact Finset.sum_congr rfl fun r _ => by rw [dB_block, iblk0_apply]; rfl

/-! ## The results -/

/-- The first result: each column's mean squared error. -/
theorem G5_val (n : Fin 11008) : Value.G5 m c (ix2 (0 : Fin 1) n)
    = recS (XA (arg0 m c)) (WA (arg1 m c)) (WA (arg4 m c)) (SA (arg3 m c)) (fA (arg2 m c)) n := by
  rw [G5_apply, (outs_eq m c (ptOf n)).1, recF_apply]
  simp only [accF_block]
  rfl

/-- The second result: each column's regulariser. -/
theorem G6_val (n : Fin 11008) : Value.G6 m c (ix2 (0 : Fin 1) n) = (regS (WA (arg4 m c)) n : EReal) := by
  rw [G6_apply, (outs_eq m c (ptOf n)).2.1, regF_apply]
  simp only [iblk4_apply, colOf_ptOf]
  rfl

/-- The third result: the output's error. -/
theorem G7_val (i : Fin 1024) (n : Fin 11008) : Value.G7 m c (ix2 i n)
    = eS (XA (arg0 m c)) (WA (arg1 m c)) (WA (arg4 m c)) (SA (arg3 m c)) (fA (arg2 m c)) i n := by
  rw [G7_apply, (outs_eq m c (ptOf n)).2.2.1]
  exact accF_block m c n i

/-- The fourth result: the gradient at the rounding variables. -/
theorem G8_val (r : Fin 4096) (n : Fin 11008) : Value.G8 m c (ix2 r n)
    = dvS (XA (arg0 m c)) (WA (arg1 m c)) (WA (arg4 m c)) (SA (arg3 m c)) (fA (arg2 m c)) r n := by
  have he : ∀ i : Fin 1024, eF (iblk m c 0 (ptOf n)) (iblk m c 1 (ptOf n)) (iblk m c 2 (ptOf n)) (iblk m c 3 (ptOf n))
      (iblk m c 4 (ptOf n)) (ix2 i (locOf n))
      = eS (XA (arg0 m c)) (WA (arg1 m c)) (WA (arg4 m c)) (SA (arg3 m c)) (fA (arg2 m c)) i n := accF_block m c n
  rw [G8_apply, (outs_eq m c (ptOf n)).2.2.2, dvP_apply]
  simp only [he, qsB_block, iblk0_apply, iblk3_apply, iblk4_apply, colOf_ptOf]
  rfl

end Cert.Adaround

end
-- ==== Proof.Scalars.lean ====
/- The scalar equations between the reference's forms and the step's (module Spec): the logistic function and the
   hyperbolic tangent, the powers of a magnitude, the two spellings of the offset's derivative, and the last sum and
   product of the gradient. -/
module

public import proofs.«01_k».proof.Proof.Spec

@[expose] public section

noncomputable section

namespace Cert.Adaround

open Idealize.ShloMosaic

/-- The logistic function of a rounding variable, a real number at the infinities too. -/
def sgR (v : EReal) : ℝ := (1 + tR v) / 2

/-- One over one plus the exponential of the negated variable is that number. -/
theorem div_sig (v : EReal) : Ideal.div ((1 : ℝ) : EReal) (((1 : ℝ) : EReal) + Ideal.exp (-v)) = (sgR v : EReal) := by
  induction v with
  | bot =>
      have h : ((1 : ℝ) : EReal) + Ideal.exp (-⊥) = ⊤ := by rw [EReal.neg_bot]; exact EReal.coe_add_top 1
      have hs : sgR ⊥ = 0 := by show (1 + (-1 : ℝ)) / 2 = 0; norm_num
      rw [h, hs]
      simp [Ideal.div]
  | top =>
      have h : Ideal.exp (-⊤) = 0 := by rw [EReal.neg_top]; rfl
      have hs : sgR ⊤ = 1 := by show (1 + (1 : ℝ)) / 2 = 1; norm_num
      rw [h, hs, add_zero, Ideal.div_coe (by norm_num)]
      norm_num
  | coe r =>
      have h : ((1 : ℝ) : EReal) + Ideal.exp (-(r : EReal)) = ((1 + Real.exp (-r) : ℝ) : EReal) := by
        rw [← EReal.coe_neg, EReal.coe_add]; rfl
      have hp : 1 + Real.exp (-r) ≠ 0 := by positivity
      have hs : sgR (r : EReal) = (1 + Real.tanh (1 / 2 * r)) / 2 := rfl
      rw [h, hs, Ideal.div_coe hp, ← EReal.coe_mul]
      congr 1
      have e1 : Real.exp (-r) = Real.exp (-(1 / 2 * r)) * Real.exp (-(1 / 2 * r)) := by
        rw [← Real.exp_add]; congr 1; ring
      have e2 : Real.exp (1 / 2 * r) * Real.exp (-(1 / 2 * r)) = 1 := by rw [← Real.exp_add]; simp
      have ha : 0 < Real.exp (1 / 2 * r) := Real.exp_pos _
      have hb : 0 < Real.exp (-(1 / 2 * r)) := Real.exp_pos _
      rw [Real.tanh_eq_sinh_div_cosh, Real.sinh_eq, Real.cosh_eq, e1]
      generalize Real.exp (1 / 2 * r) = a at *
      generalize Real.exp (-(1 / 2 * r)) = b at *
      field_simp
      nlinarith

/-- The offset's stretched value, `12/10` of the logistic function less `1/10`. -/
theorem stretch (v : EReal) : sgR v * (11 / 10 - -1 / 10) + -1 / 10 = 1 / 2 + 3 / 5 * tR v := by
  unfold sgR; ring

/-- Held to `[0, 1]` the stretched value is the offset. -/
theorem hold (v : EReal) : min 1 (max 0 (1 / 2 + 3 / 5 * tR v)) = 1 / 2 + cR v := by
  unfold cR
  rw [← min_add_add_left, ← max_add_add_left]
  norm_num

/-- The reference's derivative of the offset is twice `dhR`. -/
theorem deriv (v : EReal) : (if 0 < 1 / 2 + 3 / 5 * tR v ∧ 1 / 2 + 3 / 5 * tR v < 1
      then (11 / 10 - -1 / 10) * sgR v * (1 - sgR v) else 0) = 2 * dhR v := by
  unfold dhR sgR
  by_cases h : 0 < 1 / 2 + 3 / 5 * tR v ∧ 1 / 2 + 3 / 5 * tR v < 1
  · have hc : cR v = 3 / 5 * tR v := by
      unfold cR
      rw [max_eq_right (by linarith [h.1]), min_eq_right (by linarith [h.2])]
    rw [if_pos h, hc, if_pos (by nlinarith [h.1, h.2])]
    ring
  · rw [if_neg h, if_neg, mul_zero]
    have hc : cR v = 1 / 2 ∨ cR v = -(1 / 2) := by
      unfold cR
      rcases not_and_or.mp h with h | h
      · right
        rw [max_eq_left (by linarith), min_eq_right (by norm_num)]
      · left
        rw [min_eq_left]
        exact le_max_of_le_right (by linarith)
    rcases hc with hc | hc <;> rw [hc] <;> norm_num

/-- A real number's magnitude, as the larger of it and its negation. -/
theorem abs_coe (x : ℝ) : max (x : EReal) (-(x : EReal)) = ((|x| : ℝ) : EReal) := by
  rw [← EReal.coe_neg, abs_eq_max_neg]
  exact (EReal.coe_strictMono.monotone.map_max).symm

/-- Holding a real number to an interval is the same over the extended reals. -/
theorem coe_hold (a b x : ℝ) : ((min a (max b x) : ℝ) : EReal) = min (a : EReal) (max (b : EReal) (x : EReal)) := by
  rw [EReal.coe_strictMono.monotone.map_min, EReal.coe_strictMono.monotone.map_max]

/-- The eighth power of twice the magnitude. -/
theorem pow_eight (c : ℝ) : Ideal.pow ((|2 * c| : ℝ) : EReal) ((8 : ℝ) : EReal) = ((256 * c ^ 8 : ℝ) : EReal) := by
  show ((|2 * c| ^ (8 : ℝ) : ℝ) : EReal) = _
  congr 1
  rw [show (8 : ℝ) = ((8 : ℕ) : ℝ) by norm_num, Real.rpow_natCast, Even.pow_abs (by decide)]
  ring

/-- The signed seventh power of twice the magnitude, scaled. -/
theorem pow_seven (c : ℝ) : ((-(1 / 256) : ℝ) : EReal) * Ideal.sign ((2 * c : ℝ) : EReal)
      * Ideal.pow ((|2 * c| : ℝ) : EReal) ((7 : ℝ) : EReal) = ((-(1 / 2) * c ^ 7 : ℝ) : EReal) := by
  show ((-(1 / 256) : ℝ) : EReal) * ((SignType.sign (2 * c) : ℝ) : EReal) * ((|2 * c| ^ (7 : ℝ) : ℝ) : EReal) = _
  rw [← EReal.coe_mul, ← EReal.coe_mul]
  congr 1
  rw [show (7 : ℝ) = ((7 : ℕ) : ℝ) by norm_num, Real.rpow_natCast, pow_succ,
    Even.pow_abs (by decide : Even 6)]
  have h : (SignType.sign (2 * c) : ℝ) * |2 * c| = 2 * c := sign_mul_abs _
  calc _ = -(1 / 256) * (2 * c) ^ 6 * ((SignType.sign (2 * c) : ℝ) * |2 * c|) := by ring
    _ = _ := by rw [h]; ring

/-- The gradient's two spellings: the sum multiplied by the offset's derivative, and the difference of the products. -/
theorem grad_eq (g s : EReal) (p : Prop) [Decidable p] (c d : ℝ) (hd : 0 ≤ d) :
    (((-(1 / 512) : ℝ) : EReal) * g * s * (if p then ((1 : ℝ) : EReal) else ((0 : ℝ) : EReal)) + ((-(1 / 2) * c ^ 7 : ℝ) : EReal))
        * ((2 * d : ℝ) : EReal)
      = g * ((if p then ((-(1 / 256) : ℝ) : EReal) * s else 0) * (d : EReal)) - ((c ^ 7 * d : ℝ) : EReal) := by
  rw [EReal.right_distrib_of_nonneg_of_ne_top (by exact_mod_cast (by linarith : (0 : ℝ) ≤ 2 * d)) (EReal.coe_ne_top _),
    sub_eq_add_neg, ← EReal.coe_neg, ← EReal.coe_mul]
  congr 1
  · split
    · rw [EReal.coe_one, mul_one, EReal.coe_mul,
        show ((-(1 / 256) : ℝ) : EReal) = ((-(1 / 512) : ℝ) : EReal) * ((2 : ℝ) : EReal) by rw [← EReal.coe_mul]; norm_num]
      ac_rfl
    · rw [EReal.coe_zero, mul_zero, zero_mul, zero_mul, mul_zero]
  · congr 1; ring

end Cert.Adaround

end
-- ==== Proof.RefVal.lean ====
/- The reference's four results at an index: the values of the step (module Spec) at the argument arrays. The codes, the
   offset and its derivative are read stage by stage first. -/
module

public import proofs.«01_k».proof.Proof.Scalars
public import proofs.«01_k».proof.Proof.KernelVal
public import proofs.«01_k».proof.Proof.Gen.ReferenceIdeal.Read

@[expose] public section

set_option maxRecDepth 16384

noncomputable section

namespace Cert.Adaround

open Cert.ReferenceIdeal Cert.ReferenceIdeal.Gen Cert.ReferenceIdeal.Read Idealize.ShloMosaic Idealize.ShloMosaic.TcCoe
  Idealize.SL.Sem

variable (x0 : Vec Ideal S2x512x4096 .bf16) (x1 : Vec Ideal S4096x11008 .f32) (x2 : Vec Ideal S2048x11008 .i8)
  (x3 : Vec Ideal S11008 .f32) (x4 : Vec Ideal S4096x11008 .f32)

/-- A selection by a decided truth is the conditional. -/
theorem select_ofBool {α : Type} (p : Prop) [Decidable p] (a b : α) :
    Scalar.select (BitVec.ofBool (decide p)) a b = if p then a else b := by
  by_cases h : p <;> simp [Scalar.select, h]

/-- A selection by two decided truths is the conditional on both. -/
theorem select_and {α : Type} (p q : Prop) [Decidable p] [Decidable q] (a b : α) :
    Scalar.select (IntOp.andi (BitVec.ofBool (decide p)) (BitVec.ofBool (decide q))) a b = if p ∧ q then a else b := by
  by_cases h : p <;> by_cases h' : q <;> simp [Scalar.select, IntOp.andi, h, h']

/-! ## The codes -/

/-- The low half of a byte, less 16 where it is 8 or more, is the half's bits as a signed number. -/
theorem low_code : ∀ b : BitVec 8,
    (Scalar.select (IntOp.cmpi .sge (IntOp.andi (b.setWidth 32) 15#32) 8#32)
      (IntOp.subi (IntOp.andi (b.setWidth 32) 15#32) 16#32) (IntOp.andi (b.setWidth 32) 15#32)).toInt
      = (b.setWidth 4).toInt := by decide +kernel

/-- The high half likewise. -/
theorem high_code : ∀ b : BitVec 8,
    (Scalar.select (IntOp.cmpi .sge (IntOp.shrsi .host (b.setWidth 32) 4#32) 8#32)
      (IntOp.subi (IntOp.shrsi .host (b.setWidth 32) 4#32) 16#32) (IntOp.shrsi .host (b.setWidth 32) 4#32)).toInt
      = ((b >>> 4).setWidth 4).toInt := by decide +kernel

theorem v11_val (i : S2048x11008.Idx) :
    val_main_v11 (F := Ideal) x2 i = ((nib (x2 i) 0 : ℝ) : EReal) := by
  simp only [val_main_v11_apply, val_main_v10_apply, val_main_v9_apply, val_main_v7_apply, val_main_v3_apply,
    val_main_v1_apply, val_main_v2_apply, val_main_v6_apply, val_main_v8_apply, val_main_c_apply, val_main_c_1_apply,
    val_main_c_2_apply]
  show (((_ : BitVec 32).toInt : ℝ) : EReal) = _
  rw [low_code]
  rfl

theorem v17_val (i : S2048x11008.Idx) :
    val_main_v17 (F := Ideal) x2 i = ((nib (x2 i) 1 : ℝ) : EReal) := by
  simp only [val_main_v17_apply, val_main_v16_apply, val_main_v15_apply, val_main_v13_apply, val_main_v5_apply,
    val_main_v1_apply, val_main_v4_apply, val_main_v12_apply, val_main_v14_apply, val_main_c_0_apply, val_main_c_3_apply,
    val_main_c_4_apply]
  show (((_ : BitVec 32).toInt : ℝ) : EReal) = _
  rw [high_code]
  rfl

/-- The decoded and interleaved codes. -/
theorem v21_val (r : Fin 4096) (n : Fin 11008) :
    val_main_v21 (F := Ideal) x2 (ix2 r n) = (fA x2 r n : EReal) := by
  pointwise [val_main_v21, val_main_v20, val_main_v19, val_main_v18]
  simp only [v11_val, v17_val]
  unfold fA
  rcases Nat.mod_two_eq_zero_or_one r.val with h | h <;> simp only [h]
  · rfl
  · rfl

/-! ## The offset -/

/-- The two ends of the stretched interval. -/
theorem v22_val (i : S_.Idx) : val_main_v22 (F := Ideal) i = ((11 / 10 : ℝ) : EReal) := by
  simp only [val_main_v22_apply, val_main_cst_apply, val_main_cst_5_apply]
  show Ideal.div (Ideal.ofBits .f32 0x41300000#32) (Ideal.ofBits .f32 0x41200000#32) = _
  rw [f32_eleven, f32_ten, Ideal.div_coe (by norm_num), ← EReal.coe_mul]
  norm_num

theorem v23_val (i : S_.Idx) : val_main_v23 (F := Ideal) i = ((-1 / 10 : ℝ) : EReal) := by
  simp only [val_main_v23_apply, val_main_cst_6_apply, val_main_cst_7_apply]
  show Ideal.div (Ideal.ofBits .f32 0xBF800000#32) (Ideal.ofBits .f32 0x41200000#32) = _
  rw [f32_neg_one, f32_ten, Ideal.div_coe (by norm_num), ← EReal.coe_mul]
  norm_num

theorem v30_val (i : S_.Idx) : val_main_v30 (F := Ideal) i = ((11 / 10 - -1 / 10 : ℝ) : EReal) := by
  rw [val_main_v30_apply, v22_val, v23_val]
  exact (EReal.coe_sub _ _).symm

/-- The second spelling of the interval's length is the first. -/
theorem v74_val (i : S_.Idx) : val_main_v74 (F := Ideal) i = ((11 / 10 - -1 / 10 : ℝ) : EReal) := v30_val i

theorem v29_val (i : S4096x11008.Idx) : val_main_v29 (F := Ideal) x4 i = (sgR (x4 i) : EReal) := by
  simp only [val_main_v29_apply, val_main_v28_apply, val_main_v27_apply, val_main_v26_apply, val_main_v25_apply,
    val_main_v24_apply, val_main_cst_8_apply, val_main_cst_9_apply]
  show Ideal.div (Ideal.ofBits .f32 0x3F800000#32) (Ideal.ofBits .f32 0x3F800000#32 + Ideal.exp (-(x4 i))) = _
  rw [f32_one]
  exact div_sig _

theorem v36_val (i : S4096x11008.Idx) :
    val_main_v36 (F := Ideal) x4 i = ((1 / 2 + 3 / 5 * tR (x4 i) : ℝ) : EReal) := by
  simp only [val_main_v36_apply, val_main_v35_apply, val_main_v34_apply, val_main_v33_apply, val_main_v32_apply,
    val_main_v31_apply, v30_val, v23_val, v29_val]
  show (sgR (x4 i) : EReal) * ((11 / 10 - -1 / 10 : ℝ) : EReal) + ((-1 / 10 : ℝ) : EReal) = _
  rw [← EReal.coe_mul, ← EReal.coe_add, stretch]

theorem v37_val (i : S4096x11008.Idx) : val_main_v37 (F := Ideal) x4 i = ((1 / 2 + cR (x4 i) : ℝ) : EReal) := by
  simp only [val_main_v37_apply, val_main_call2_v4_apply, val_main_call2_v3_apply, val_main_call2_v2_apply,
    val_main_call2_v1_apply, val_main_call2_v0_apply, val_main_cst_10_apply, val_main_cst_11_apply, v36_val]
  show min (Ideal.ofBits .f32 0x3F800000#32) (max (Ideal.ofBits .f32 0x00000000#32) ((1 / 2 + 3 / 5 * tR (x4 i) : ℝ) : EReal)) = _
  rw [f32_one, f32_zero, ← hold]
  exact (coe_hold _ _ _).symm

/-- Twice the offset less one. -/
theorem v53_val (i : S4096x11008.Idx) : val_main_v53 (F := Ideal) x4 i = ((2 * cR (x4 i) : ℝ) : EReal) := by
  simp only [val_main_v53_apply, val_main_v52_apply, val_main_v51_apply, val_main_v50_apply, val_main_cst_16_apply,
    val_main_cst_17_apply, v37_val]
  show Ideal.ofBits .f32 0x40000000#32 * ((1 / 2 + cR (x4 i) : ℝ) : EReal) - Ideal.ofBits .f32 0x3F800000#32 = _
  rw [f32_two, f32_one, ← EReal.coe_mul, ← EReal.coe_sub]
  congr 1; ring

theorem v85_val (i : S4096x11008.Idx) : val_main_v85 (F := Ideal) x4 i = ((2 * cR (x4 i) : ℝ) : EReal) := v53_val x4 i

/-- One less the eighth power. -/
theorem v58_val (i : S4096x11008.Idx) : val_main_v58 (F := Ideal) x4 i = ((1 - 256 * cR (x4 i) ^ 8 : ℝ) : EReal) := by
  simp only [val_main_v58_apply, val_main_v57_apply, val_main_v56_apply, val_main_v55_apply, val_main_v54_apply,
    val_main_cst_18_apply, val_main_cst_19_apply, v53_val]
  show Ideal.ofBits .f32 0x3F800000#32 - Ideal.pow (max ((2 * cR (x4 i) : ℝ) : EReal) (-((2 * cR (x4 i) : ℝ) : EReal)))
    (Ideal.ofBits .f32 0x41000000#32) = _
  rw [abs_coe, f32_one, f32_eight, pow_eight, ← EReal.coe_sub]

/-- The regulariser's derivative at the offset. -/
theorem v92_val (i : S4096x11008.Idx) : val_main_v92 (F := Ideal) x4 i = ((-(1 / 2) * cR (x4 i) ^ 7 : ℝ) : EReal) := by
  simp only [val_main_v92_apply, val_main_v91_apply, val_main_v90_apply, val_main_v89_apply, val_main_v88_apply,
    val_main_v87_apply, val_main_v86_apply, val_main_cst_35_apply, val_main_cst_36_apply, v85_val]
  show Ideal.ofBits .f32 0xBB800000#32 * Ideal.sign ((2 * cR (x4 i) : ℝ) : EReal)
    * Ideal.pow (max ((2 * cR (x4 i) : ℝ) : EReal) (-((2 * cR (x4 i) : ℝ) : EReal))) (Ideal.ofBits .f32 0x40E00000#32) = _
  rw [abs_coe, f32_neg_inv_256, f32_seven, pow_seven]

/-- The offset's derivative. -/
theorem v81_val (i : S4096x11008.Idx) : val_main_v81 (F := Ideal) x4 i = ((2 * dhR (x4 i) : ℝ) : EReal) := by
  simp only [val_main_v81_apply, val_main_v80_apply, val_main_v79_apply, val_main_v78_apply, val_main_v77_apply,
    val_main_v76_apply, val_main_v75_apply, val_main_v73_apply, val_main_v72_apply, val_main_v71_apply, val_main_v70_apply,
    val_main_v69_apply, val_main_call5_v1_apply, val_main_call5_v0_apply, val_main_cst_29_apply, val_main_cst_30_apply,
    val_main_cst_31_apply, val_main_cst_32_apply, v74_val, v29_val, v36_val]
  rw [← deriv]
  show Scalar.select (IntOp.andi (Ideal.cmp .ogt ((1 / 2 + 3 / 5 * tR (x4 i) : ℝ) : EReal) (Ideal.ofBits .f32 0x00000000#32))
      (Ideal.cmp .olt ((1 / 2 + 3 / 5 * tR (x4 i) : ℝ) : EReal) (Ideal.ofBits .f32 0x3F800000#32)))
    (((11 / 10 - -1 / 10 : ℝ) : EReal) * (sgR (x4 i) : EReal) * (Ideal.ofBits .f32 0x3F800000#32 - (sgR (x4 i) : EReal)))
    (Ideal.ofBits .f32 0x00000000#32) = _
  rw [f32_zero, f32_one, ← EReal.coe_sub, ← EReal.coe_mul, ← EReal.coe_mul]
  refine (select_and _ _ _ _).trans ?_
  simp only [EReal.coe_lt_coe_iff]
  split <;> rfl

/-! ## The quantised weight and the error -/

/-- The code plus its offset. -/
theorem v38_val (r : Fin 4096) (n : Fin 11008) :
    val_main_v38 (F := Ideal) x2 x4 (ix2 r n) = (qsS (WA x4) (fA x2) r n : EReal) := by
  rw [val_main_v38_apply, v21_val, v37_val]
  show (fA x2 r n : EReal) + ((1 / 2 + cR (x4 (ix2 r n)) : ℝ) : EReal) = _
  rw [← EReal.coe_add, ← add_assoc]
  rfl

/-- The quantised weight's error. -/
theorem v44_val (r : Fin 4096) (n : Fin 11008) :
    val_main_v44 (F := Ideal) x1 x2 x3 x4 (ix2 r n) = dS (WA x1) (WA x4) (SA x3) (fA x2) r n := by
  have hs : val_main_v41 (F := Ideal) x3 (ix2 r n) = SA x3 n := by
    pointwise [val_main_v41, val_main_v40]
    rfl
  simp only [val_main_v44_apply, val_main_v43_apply, val_main_v42_apply, val_main_v39_apply, val_main_call3_v4_apply,
    val_main_call3_v3_apply, val_main_call3_v2_apply, val_main_call3_v1_apply, val_main_call3_v0_apply,
    val_main_cst_12_apply, val_main_cst_13_apply, v38_val, hs]
  show x1 (ix2 r n) - SA x3 n * min (Ideal.ofBits .f32 0x40E00000#32)
    (max (Ideal.ofBits .f32 0xC1000000#32) (qsS (WA x4) (fA x2) r n : EReal)) = _
  rw [f32_seven, f32_neg_eight, ← coe_hold]
  rfl

theorem v0_val (i : Fin 1024) (d : Fin 4096) : val_main_v0 (F := Ideal) x0 (ix2 i d) = XA x0 i d := by
  pointwise [val_main_v0]
  rfl

/-- The output's error. -/
theorem v45_val (i : Fin 1024) (n : Fin 11008) :
    val_main_v45 (F := Ideal) x0 x1 x2 x3 x4 (ix2 i n) = eS (XA x0) (WA x1) (WA x4) (SA x3) (fA x2) i n := by
  rw [val_main_v45_apply]
  refine Finset.sum_congr rfl fun k _ => ?_
  have hl : lidx_main_v45 (ix2 i n) k = ix2 i k := by funext a; fin_cases a <;> rfl
  have hr : ridx_main_v45 (ix2 i n) k = ix2 k n := by funext a; fin_cases a <;> rfl
  rw [hl, hr, v0_val, v44_val]

/-! ## The results -/

/-- The first result: each column's mean squared error. -/
theorem v102_val (n : Fin 11008) :
    val_main_v102 (F := Ideal) x0 x1 x2 x3 x4 (ix2 (0 : Fin 1) n) = recS (XA x0) (WA x1) (WA x4) (SA x3) (fA x2) n := by
  have hi : idx_main_v102 (ix2 (0 : Fin 1) n) = ix1 n := by
    funext a; fin_cases a; exact Fin.ext (by show 0 * 11008 + n.val = n.val; omega)
  have hk : ∀ k : Fin 1024, idx_main_v47 (ix1 n) k = ix2 k n := fun k => by funext a; fin_cases a <;> rfl
  rw [val_main_v102_apply, hi]
  simp only [val_main_v49_apply, val_main_v48_apply, val_main_v47_apply, val_main_v46_apply, val_main_cst_14_apply,
    val_main_cst_15_apply, hk, v45_val]
  show Ideal.div (Ideal.ofBits .f32 0x00000000#32 + ∑ i : Fin 1024, eS (XA x0) (WA x1) (WA x4) (SA x3) (fA x2) i n
    * eS (XA x0) (WA x1) (WA x4) (SA x3) (fA x2) i n) (Ideal.ofBits .f32 0x44800000#32) = _
  rw [f32_zero, f32_1024, EReal.coe_zero, zero_add, Ideal.div_coe (by norm_num)]
  rfl

/-- The second result: each column's regulariser. -/
theorem v103_val (n : Fin 11008) :
    val_main_v103 (F := Ideal) x4 (ix2 (0 : Fin 1) n) = (regS (WA x4) n : EReal) := by
  have hi : idx_main_v103 (ix2 (0 : Fin 1) n) = ix1 n := by
    funext a; fin_cases a; exact Fin.ext (by show 0 * 11008 + n.val = n.val; omega)
  have hk : ∀ k : Fin 4096, idx_main_v59 (ix1 n) k = ix2 k n := fun k => by funext a; fin_cases a <;> rfl
  rw [val_main_v103_apply, hi]
  simp only [val_main_v61_apply, val_main_v60_apply, val_main_v59_apply, val_main_cst_20_apply, val_main_cst_21_apply, hk,
    v58_val]
  show Ideal.ofBits .f32 0x39800000#32 * (Ideal.ofBits .f32 0x00000000#32
    + ∑ r : Fin 4096, ((1 - 256 * cR (x4 (ix2 r n)) ^ 8 : ℝ) : EReal)) = _
  rw [f32_zero, f32_inv_4096, EReal.coe_zero, zero_add, coe_sum, ← EReal.coe_mul]
  unfold regS WA
  rw [Finset.sum_sub_distrib, ← Finset.mul_sum, Finset.sum_const, Finset.card_univ, Fintype.card_fin, nsmul_eq_mul, mul_one,
    Nat.cast_ofNat]

/-- The third result: the output's error. -/
theorem v62_val (i : Fin 1024) (n : Fin 11008) :
    val_main_v62 (F := Ideal) x0 x1 x2 x3 x4 (ix2 i n) = eS (XA x0) (WA x1) (WA x4) (SA x3) (fA x2) i n :=
  v45_val x0 x1 x2 x3 x4 i n

/-- The error carried back to the weights. -/
theorem v63_val (r : Fin 4096) (n : Fin 11008) :
    val_main_v63 (F := Ideal) x0 x1 x2 x3 x4 (ix2 r n) = gS (XA x0) (WA x1) (WA x4) (SA x3) (fA x2) r n := by
  rw [val_main_v63_apply]
  refine Finset.sum_congr rfl fun k _ => ?_
  have hl : lidx_main_v63 (ix2 r n) k = ix2 k r := by funext a; fin_cases a <;> rfl
  have hr : ridx_main_v63 (ix2 r n) k = ix2 k n := by funext a; fin_cases a <;> rfl
  rw [hl, hr, v0_val, v62_val]

/-- The fourth result: the gradient at the rounding variables. -/
theorem v101_val (r : Fin 4096) (n : Fin 11008) :
    val_main_v101 (F := Ideal) x0 x1 x2 x3 x4 (ix2 r n) = dvS (XA x0) (WA x1) (WA x4) (SA x3) (fA x2) r n := by
  have hs : val_main_v96 (F := Ideal) x3 (ix2 r n) = SA x3 n := by
    pointwise [val_main_v96, val_main_v95]
    rfl
  have hm : val_main_v98 (F := Ideal) x2 x4 (ix2 r n)
      = if qsS (WA x4) (fA x2) r n ≤ 7 then ((1 : ℝ) : EReal) else ((0 : ℝ) : EReal) := by
    simp only [val_main_v98_apply, val_main_v68_apply, val_main_v67_apply, val_main_v66_apply, val_main_call4_v0_apply,
      val_main_call4_v1_apply, val_main_cst_26_apply, val_main_cst_27_apply, val_main_cst_28_apply, v38_val]
    show Scalar.select (BitVec.ofBool (decide ((qsS (WA x4) (fA x2) r n : EReal) ≤ Ideal.ofBits .f32 0x40E00000#32)))
      (Ideal.ofBits .f32 0x3F800000#32) (Ideal.ofBits .f32 0x00000000#32) = _
    rw [select_ofBool, f32_seven, f32_one, f32_zero]
    simp only [EReal.coe_le_coe_iff]
  simp only [val_main_v101_apply, val_main_v100_apply, val_main_v99_apply, val_main_v97_apply, val_main_v94_apply,
    val_main_v93_apply, val_main_cst_37_apply, v92_val, v81_val, v63_val, hs, hm]
  show (Ideal.ofBits .f32 0xBB000000#32 * gS (XA x0) (WA x1) (WA x4) (SA x3) (fA x2) r n * SA x3 n
    * (if qsS (WA x4) (fA x2) r n ≤ 7 then ((1 : ℝ) : EReal) else ((0 : ℝ) : EReal))
    + ((-(1 / 2) * cR (x4 (ix2 r n)) ^ 7 : ℝ) : EReal)) * ((2 * dhR (x4 (ix2 r n)) : ℝ) : EReal) = _
  rw [f32_neg_inv_512]
  exact grad_eq _ _ _ _ _ (dhR_nonneg _)

end Cert.Adaround

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelVal
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- Every run of the kernel ends without fault, its arguments unchanged. -/
theorem frame_p : Cert.quiescent_Kernel (hKernel := Cert.Kernel.Gen.facts) := fun m ρ _ => Cert.Kernel.Gen.frame m ρ

/-- Every run of the ideal kernel ends without fault, its arguments unchanged. -/
theorem frame_pi : Cert.quiescent_KernelIdeal (hKernelIdeal := Cert.KernelIdeal.Gen.facts) :=
  fun m ρ _ => Cert.KernelIdeal.Gen.frame m ρ

/-- Every run of the reference ends without fault, its arguments unchanged. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The ideal kernel is the kernel, its three rounded constants read as the fractions they round. -/
theorem preserves : Cert.preserves_Kernel_KernelIdeal :=
  ⟨IdealRules.named_const.statement Cert.KernelIdeal.κ "three_fifths" .f32 0x3F19999A#32 ((3 / 5 : ℝ) : EReal) rfl,
    IdealRules.named_const.statement Cert.KernelIdeal.κ "five_twelfths" .f32 0x3ED55555#32 ((5 / 12 : ℝ) : EReal) rfl,
    IdealRules.named_const.statement Cert.KernelIdeal.κ "three_twentieths" .f32 0x3E19999A#32 ((3 / 20 : ℝ) : EReal) rfl⟩

section
open Cert.Adaround Cert.ReferenceIdeal.Read

variable (m : (ℓ : Loc Cert.KernelIdeal.nD Cert.KernelIdeal.τ Cert.KernelIdeal.sig) → Buf (Elt Ideal) ℓ)
  (c : Dev Cert.KernelIdeal.nD)

/-- An index of a one-row array is its column in row zero. -/
theorem row_ix (y : Cert.KernelIdeal.S1x11008.Idx) : y = ix2 (0 : Fin 1) (y 1 : Fin 11008) :=
  (ValueIdx.eq_ix2 y).trans
    (congrArg (fun a : Fin 1 => ix2 a (y 1 : Fin 11008)) (@Subsingleton.elim (Fin 1) _ (y 0 : Fin 1) 0))

/-- The first result, as one array: the reference's of the kernel's arguments is the kernel's. -/
theorem rec_eq : val_main_v102 (F := Ideal) (arg0 m c) (arg1 m c) (arg2 m c) (arg3 m c) (arg4 m c)
    = Cert.KernelIdeal.Value.G5 m c := by
  funext y
  rw [row_ix y]
  exact (v102_val _ _ _ _ _ _).trans (G5_val m c _).symm

/-- The second result likewise. -/
theorem reg_eq : val_main_v103 (F := Ideal) (arg4 m c) = Cert.KernelIdeal.Value.G6 m c := by
  funext y
  rw [row_ix y]
  exact (v103_val _ _).trans (G6_val m c _).symm

/-- The third result likewise. -/
theorem err_eq : val_main_v62 (F := Ideal) (arg0 m c) (arg1 m c) (arg2 m c) (arg3 m c) (arg4 m c)
    = Cert.KernelIdeal.Value.G7 m c := by
  funext y
  rw [ValueIdx.eq_ix2 y]
  exact (v62_val _ _ _ _ _ _ _).trans (G7_val m c _ _).symm

/-- The fourth result likewise. -/
theorem grad_eq_G8 : val_main_v101 (F := Ideal) (arg0 m c) (arg1 m c) (arg2 m c) (arg3 m c) (arg4 m c)
    = Cert.KernelIdeal.Value.G8 m c := by
  funext y
  rw [ValueIdx.eq_ix2 y]
  exact (v101_val _ _ _ _ _ _ _).trans (G8_val m c _ _).symm

end

/-- Over the extended reals the kernel and the reference compute the same four arrays. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G5 m c, fun c => Cert.KernelIdeal.Value.G6 m c,
    fun c => Cert.KernelIdeal.Value.G7 m c, fun c => Cert.KernelIdeal.Value.G8 m c, Cert.KernelIdeal.Value.run m ρ, ?_⟩
  refine (θ_run Cert.ReferenceIdeal.defs _ _).mono (fun _ h c => ?_) (Cert.ReferenceIdeal.Value.run (F := Ideal) m' ρ')
  obtain ⟨h0, h1, h2, h3, h4⟩ := hagree c
  obtain ⟨e0, e1, e2, e3, hargs⟩ := h c
  refine ⟨e0.trans ?_, e1.trans ?_, e2.trans ?_, e3.trans ?_, hargs⟩
  · rw [Cert.ReferenceIdeal.Read.val_main_v102_eq, h0, h1, h2, h3, h4]
    exact rec_eq m c
  · refine (Cert.ReferenceIdeal.Read.val_main_v103_eq _).trans ?_
    rw [h4]
    exact reg_eq m c
  · refine (Cert.ReferenceIdeal.Read.val_main_v62_eq _ _ _ _ _).trans ?_
    rw [h0, h1, h2, h3, h4]
    exact err_eq m c
  · rw [Cert.ReferenceIdeal.Read.val_main_v101_eq, h0, h1, h2, h3, h4]
    exact grad_eq_G8 m c

/-- All five claims. -/
theorem claim : Cert.Claim := ⟨Cert.Kernel.Gen.facts, Cert.KernelIdeal.Gen.facts, Cert.ReferenceIdeal.Gen.facts,
  frame_p, frame_pi, frame_ri, preserves, algebraic⟩

end Cert.Proof

end
